-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4096x256 : Shape := ⟨2, ![4096, 256]⟩
abbrev S256x8192 : Shape := ⟨2, ![256, 8192]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x8192 : S_.BroadcastsInDim S256x8192 (![] : Fin 0 → Fin S256x8192.rank)
  reducesTo_S256x8192_S_d0_1 : S256x8192.ReducesTo [0, 1] S_

variable [Facts]

def fn {F : FTy → Type} [FloatOps F] (main_arg0 : FVec F S4096x256 .f32) (main_arg1 : FVec F S256x8192 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x8192 .f32 := Host.absf main_arg1
  let main_cst_0 : FVec F S_ .f32 := constant S_ .f32 0x7F800000#32
  let main_v5 : FVec F S256x8192 .f32 := broadcastInDim S256x8192 ![] bcast_S_S256x8192 main_cst_0
  let main_v6 : IVec S256x8192 1 := cmpf .olt main_v4 main_v5
  let main_c_1 : IVec S_ 1 := constantI S_ 1 1#1
  let main_v7 : IVec S_ 1 := (fun x v => Host.reduce IntOp.andi x v reducesTo_S256x8192_S_d0_1 h_S_) main_v6 main_c_1
  let main_v8 : IVec S_ 1 := andi main_v3 main_v7
  main_v8
-- ==== Pre_finite_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S4096x4096 .f32) (main_arg1 : FVec F S4096x8192 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x256 : Shape := ⟨2, ![4096, 256]⟩
abbrev S256x8192 : Shape := ⟨2, ![256, 8192]⟩
abbrev S4096x768 : Shape := ⟨2, ![4096, 768]⟩
abbrev S768x8192 : Shape := ⟨2, ![768, 8192]⟩
abbrev S2x256x4096 : Shape := ⟨3, ![2, 256, 4096]⟩
abbrev S2 : Shape := ⟨1, ![2]⟩
abbrev S_ : Shape := ⟨0, ![]⟩
abbrev S16x128 : Shape := ⟨2, ![16, 128]⟩
abbrev S16 : Shape := ⟨1, ![16]⟩
abbrev S256x768 : Shape := ⟨2, ![256, 768]⟩
abbrev S768x2048 : Shape := ⟨2, ![768, 2048]⟩
abbrev S256x2048 : Shape := ⟨2, ![256, 2048]⟩
abbrev S1x256x2048 : Shape := ⟨3, ![1, 256, 2048]⟩
abbrev S1 : Shape := ⟨1, ![1]⟩
abbrev S1x256x4096 : Shape := ⟨3, ![1, 256, 4096]⟩
abbrev S256x4096 : Shape := ⟨2, ![256, 4096]⟩
abbrev S1x256x8192 : Shape := ⟨3, ![1, 256, 8192]⟩
abbrev S1x1x1 : Shape := ⟨3, ![1, 1, 1]⟩
abbrev S128 : Shape := ⟨1, ![128]⟩
abbrev S1x128 : Shape := ⟨2, ![1, 128]⟩
abbrev S1x16x128 : Shape := ⟨3, ![1, 16, 128]⟩

abbrev nBuf : Space → Nat
  | .hbm => 13
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x8192, .f32⟩
  | .hbm, ⟨2, _⟩ => ⟨S4096x256, .bf16⟩
  | .hbm, ⟨3, _⟩ => ⟨S4096x256, .f32⟩
  | .hbm, ⟨4, _⟩ => ⟨S4096x256, .f32⟩
  | .hbm, ⟨5, _⟩ => ⟨S4096x256, .bf16⟩
  | .hbm, ⟨6, _⟩ => ⟨S256x8192, .bf16⟩
  | .hbm, ⟨7, _⟩ => ⟨S256x8192, .f32⟩
  | .hbm, ⟨8, _⟩ => ⟨S256x8192, .f32⟩
  | .hbm, ⟨9, _⟩ => ⟨S256x8192, .bf16⟩
  | .hbm, ⟨10, _⟩ => ⟨S4096x768, .bf16⟩
  | .hbm, ⟨11, _⟩ => ⟨S768x8192, .bf16⟩
  | .hbm, ⟨12, _⟩ => ⟨S256x8192, .f32⟩
  | .local _ .vmem, ⟨0, _⟩ => ⟨S4096x768, .bf16⟩
  | .local _ .vmem, ⟨1, _⟩ => ⟨S768x8192, .bf16⟩
  | .local _ .vmem, ⟨2, _⟩ => ⟨S256x8192, .f32⟩
  | .local _ .vmem, ⟨3, _⟩ => ⟨S2x256x4096, .f32⟩
  | .local _ .vmem, ⟨4, _⟩ => ⟨S2x256x4096, .f32⟩
  | .local _ .vmem, ⟨5, _⟩ => ⟨S16x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 3 43 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch8 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c1_i32_10 : BitVec 32 := 1#32
  let v14 : BitVec 32 := Scalar.subi v13 c1_i32_10
  let v15 : BitVec 32 := Scalar.subi v14 c0_i32_11
  let c16_i32_12 : BitVec 32 := 16#32
  let v16 : BitVec 32 := Scalar.remsi v15 c16_i32_12
  let c256_i32 : BitVec 32 := 256#32
  let v17 : BitVec 32 := Scalar.muli v16 c256_i32
  let v18 : Index := Scalar.indexCast v17
  let c0 : Index := 0#32
  ![v18.toNat, 0]
def k0_off2 (d0 : Dev nD) (c0_i32_19 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.addi v2 c1_i32_18
  let v28 : BitVec 32 := Scalar.addi v27 c0_i32_19
  let c16_i32_20 : BitVec 32 := 16#32
  let v29 : BitVec 32 := Scalar.remsi v28 c16_i32_20
  let c256_i32_21 : BitVec 32 := 256#32
  let v30 : BitVec 32 := Scalar.muli v29 c256_i32_21
  let v31 : Index := Scalar.indexCast v30
  let c0_22 : Index := 0#32
  ![v31.toNat, 0]
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_53 : BitVec 32 := 1#32
  let v67 : BitVec 32 := Scalar.muli v7 c1_i32_53
  let v68 : BitVec 32 := Scalar.addi c0_i32_54 v67
  v68.toNat
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_63 : BitVec 32 := 1#32
  let v77 : BitVec 32 := Scalar.muli v5 c1_i32_63
  let v78 : BitVec 32 := Scalar.addi c0_i32_64 v77
  v78.toNat
def k0_dev5 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_181 : BitVec 32 := 1#32
  let v193 : BitVec 32 := Scalar.muli v5 c1_i32_181
  let v194 : BitVec 32 := Scalar.addi c0_i32_182 v193
  v194.toNat
def k0_dev6 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_184 : BitVec 32 := 1#32
  let v195 : BitVec 32 := Scalar.muli v7 c1_i32_184
  let v196 : BitVec 32 := Scalar.addi c0_i32_185 v195
  v196.toNat
def k0_dev7 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_194 : BitVec 32 := 1#32
  let v197 : BitVec 32 := Scalar.muli v7 c1_i32_194
  let v198 : BitVec 32 := Scalar.addi c0_i32_195 v197
  v198.toNat
def k0_dev8 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_204 : BitVec 32 := 1#32
  let v207 : BitVec 32 := Scalar.muli v5 c1_i32_204
  let v208 : BitVec 32 := Scalar.addi c0_i32_205 v207
  v208.toNat
def k0_dev9 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_323 : BitVec 32 := 1#32
  let v323 : BitVec 32 := Scalar.muli v5 c1_i32_323
  let v324 : BitVec 32 := Scalar.addi c0_i32_324 v323
  v324.toNat
def k0_dev10 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_326 : BitVec 32 := 1#32
  let v325 : BitVec 32 := Scalar.muli v7 c1_i32_326
  let v326 : BitVec 32 := Scalar.addi c0_i32_327 v325
  v326.toNat
def k0_dev11 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_336 : BitVec 32 := 1#32
  let v327 : BitVec 32 := Scalar.muli v7 c1_i32_336
  let v328 : BitVec 32 := Scalar.addi c0_i32_337 v327
  v328.toNat
def k0_dev12 (d0 : Dev nD) : Nat :=
  let c0_i32_347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_346 : BitVec 32 := 1#32
  let v337 : BitVec 32 := Scalar.muli v5 c1_i32_346
  let v338 : BitVec 32 := Scalar.addi c0_i32_347 v337
  v338.toNat
def k0_dev13 (d0 : Dev nD) : Nat :=
  let c0_i32_465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_464 : BitVec 32 := 1#32
  let v453 : BitVec 32 := Scalar.muli v5 c1_i32_464
  let v454 : BitVec 32 := Scalar.addi c0_i32_465 v453
  v454.toNat
def k0_dev14 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_467 : BitVec 32 := 1#32
  let v455 : BitVec 32 := Scalar.muli v7 c1_i32_467
  let v456 : BitVec 32 := Scalar.addi c0_i32_468 v455
  v456.toNat
def k0_dev15 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_477 : BitVec 32 := 1#32
  let v457 : BitVec 32 := Scalar.muli v7 c1_i32_477
  let v458 : BitVec 32 := Scalar.addi c0_i32_478 v457
  v458.toNat
def k0_dev16 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_487 : BitVec 32 := 1#32
  let v467 : BitVec 32 := Scalar.muli v5 c1_i32_487
  let v468 : BitVec 32 := Scalar.addi c0_i32_488 v467
  v468.toNat
def k0_dev17 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_605 : BitVec 32 := 1#32
  let v583 : BitVec 32 := Scalar.muli v5 c1_i32_605
  let v584 : BitVec 32 := Scalar.addi c0_i32_606 v583
  v584.toNat
def k0_dev18 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_608 : BitVec 32 := 1#32
  let v585 : BitVec 32 := Scalar.muli v7 c1_i32_608
  let v586 : BitVec 32 := Scalar.addi c0_i32_609 v585
  v586.toNat
def k0_dev19 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_618 : BitVec 32 := 1#32
  let v587 : BitVec 32 := Scalar.muli v7 c1_i32_618
  let v588 : BitVec 32 := Scalar.addi c0_i32_619 v587
  v588.toNat
def k0_dev20 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_628 : BitVec 32 := 1#32
  let v597 : BitVec 32 := Scalar.muli v5 c1_i32_628
  let v598 : BitVec 32 := Scalar.addi c0_i32_629 v597
  v598.toNat
def k0_dev21 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_746 : BitVec 32 := 1#32
  let v713 : BitVec 32 := Scalar.muli v5 c1_i32_746
  let v714 : BitVec 32 := Scalar.addi c0_i32_747 v713
  v714.toNat
def k0_dev22 (d0 : Dev nD) : Nat :=
  let c0_i32_750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_749 : BitVec 32 := 1#32
  let v715 : BitVec 32 := Scalar.muli v7 c1_i32_749
  let v716 : BitVec 32 := Scalar.addi c0_i32_750 v715
  v716.toNat
def k0_dev23 (d0 : Dev nD) : Nat :=
  let c0_i32_760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_759 : BitVec 32 := 1#32
  let v717 : BitVec 32 := Scalar.muli v7 c1_i32_759
  let v718 : BitVec 32 := Scalar.addi c0_i32_760 v717
  v718.toNat
def k0_dev24 (d0 : Dev nD) : Nat :=
  let c0_i32_770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_769 : BitVec 32 := 1#32
  let v727 : BitVec 32 := Scalar.muli v5 c1_i32_769
  let v728 : BitVec 32 := Scalar.addi c0_i32_770 v727
  v728.toNat
def k0_dev25 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_887 : BitVec 32 := 1#32
  let v843 : BitVec 32 := Scalar.muli v5 c1_i32_887
  let v844 : BitVec 32 := Scalar.addi c0_i32_888 v843
  v844.toNat
def k0_dev26 (d0 : Dev nD) : Nat :=
  let c0_i32_891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_890 : BitVec 32 := 1#32
  let v845 : BitVec 32 := Scalar.muli v7 c1_i32_890
  let v846 : BitVec 32 := Scalar.addi c0_i32_891 v845
  v846.toNat
def k0_dev27 (d0 : Dev nD) : Nat :=
  let c0_i32_901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_900 : BitVec 32 := 1#32
  let v847 : BitVec 32 := Scalar.muli v7 c1_i32_900
  let v848 : BitVec 32 := Scalar.addi c0_i32_901 v847
  v848.toNat
def k0_dev28 (d0 : Dev nD) : Nat :=
  let c0_i32_911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_910 : BitVec 32 := 1#32
  let v857 : BitVec 32 := Scalar.muli v5 c1_i32_910
  let v858 : BitVec 32 := Scalar.addi c0_i32_911 v857
  v858.toNat
def k0_dev29 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1028 : BitVec 32 := 1#32
  let v973 : BitVec 32 := Scalar.muli v5 c1_i32_1028
  let v974 : BitVec 32 := Scalar.addi c0_i32_1029 v973
  v974.toNat
def k0_dev30 (d0 : Dev nD) : Nat :=
  let c0_i32_1032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1031 : BitVec 32 := 1#32
  let v975 : BitVec 32 := Scalar.muli v7 c1_i32_1031
  let v976 : BitVec 32 := Scalar.addi c0_i32_1032 v975
  v976.toNat
def k0_dev31 (d0 : Dev nD) : Nat :=
  let c0_i32_1042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1041 : BitVec 32 := 1#32
  let v977 : BitVec 32 := Scalar.muli v7 c1_i32_1041
  let v978 : BitVec 32 := Scalar.addi c0_i32_1042 v977
  v978.toNat
def k0_dev32 (d0 : Dev nD) : Nat :=
  let c0_i32_1052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1051 : BitVec 32 := 1#32
  let v987 : BitVec 32 := Scalar.muli v5 c1_i32_1051
  let v988 : BitVec 32 := Scalar.addi c0_i32_1052 v987
  v988.toNat
def k0_dev33 (d0 : Dev nD) : Nat :=
  let c0_i32_1170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1169 : BitVec 32 := 1#32
  let v1103 : BitVec 32 := Scalar.muli v5 c1_i32_1169
  let v1104 : BitVec 32 := Scalar.addi c0_i32_1170 v1103
  v1104.toNat
def k0_dev34 (d0 : Dev nD) : Nat :=
  let c0_i32_1173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1172 : BitVec 32 := 1#32
  let v1105 : BitVec 32 := Scalar.muli v7 c1_i32_1172
  let v1106 : BitVec 32 := Scalar.addi c0_i32_1173 v1105
  v1106.toNat
def k0_dev35 (d0 : Dev nD) : Nat :=
  let c0_i32_1183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1182 : BitVec 32 := 1#32
  let v1107 : BitVec 32 := Scalar.muli v7 c1_i32_1182
  let v1108 : BitVec 32 := Scalar.addi c0_i32_1183 v1107
  v1108.toNat
def k0_dev36 (d0 : Dev nD) : Nat :=
  let c0_i32_1193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1192 : BitVec 32 := 1#32
  let v1117 : BitVec 32 := Scalar.muli v5 c1_i32_1192
  let v1118 : BitVec 32 := Scalar.addi c0_i32_1193 v1117
  v1118.toNat
def k0_dev37 (d0 : Dev nD) : Nat :=
  let c0_i32_1311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1310 : BitVec 32 := 1#32
  let v1233 : BitVec 32 := Scalar.muli v5 c1_i32_1310
  let v1234 : BitVec 32 := Scalar.addi c0_i32_1311 v1233
  v1234.toNat
def k0_dev38 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1313 : BitVec 32 := 1#32
  let v1235 : BitVec 32 := Scalar.muli v7 c1_i32_1313
  let v1236 : BitVec 32 := Scalar.addi c0_i32_1314 v1235
  v1236.toNat
def k0_dev39 (d0 : Dev nD) : Nat :=
  let c0_i32_1324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1323 : BitVec 32 := 1#32
  let v1237 : BitVec 32 := Scalar.muli v7 c1_i32_1323
  let v1238 : BitVec 32 := Scalar.addi c0_i32_1324 v1237
  v1238.toNat
def k0_dev40 (d0 : Dev nD) : Nat :=
  let c0_i32_1334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1333 : BitVec 32 := 1#32
  let v1247 : BitVec 32 := Scalar.muli v5 c1_i32_1333
  let v1248 : BitVec 32 := Scalar.addi c0_i32_1334 v1247
  v1248.toNat
def k0_dev41 (d0 : Dev nD) : Nat :=
  let c0_i32_1452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1451 : BitVec 32 := 1#32
  let v1363 : BitVec 32 := Scalar.muli v5 c1_i32_1451
  let v1364 : BitVec 32 := Scalar.addi c0_i32_1452 v1363
  v1364.toNat
def k0_dev42 (d0 : Dev nD) : Nat :=
  let c0_i32_1455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1454 : BitVec 32 := 1#32
  let v1365 : BitVec 32 := Scalar.muli v7 c1_i32_1454
  let v1366 : BitVec 32 := Scalar.addi c0_i32_1455 v1365
  v1366.toNat
def k0_dev43 (d0 : Dev nD) : Nat :=
  let c0_i32_1465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1464 : BitVec 32 := 1#32
  let v1367 : BitVec 32 := Scalar.muli v7 c1_i32_1464
  let v1368 : BitVec 32 := Scalar.addi c0_i32_1465 v1367
  v1368.toNat
def k0_dev44 (d0 : Dev nD) : Nat :=
  let c0_i32_1475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1474 : BitVec 32 := 1#32
  let v1377 : BitVec 32 := Scalar.muli v5 c1_i32_1474
  let v1378 : BitVec 32 := Scalar.addi c0_i32_1475 v1377
  v1378.toNat
def k0_dev45 (d0 : Dev nD) : Nat :=
  let c0_i32_1593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1592 : BitVec 32 := 1#32
  let v1493 : BitVec 32 := Scalar.muli v5 c1_i32_1592
  let v1494 : BitVec 32 := Scalar.addi c0_i32_1593 v1493
  v1494.toNat
def k0_dev46 (d0 : Dev nD) : Nat :=
  let c0_i32_1596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1595 : BitVec 32 := 1#32
  let v1495 : BitVec 32 := Scalar.muli v7 c1_i32_1595
  let v1496 : BitVec 32 := Scalar.addi c0_i32_1596 v1495
  v1496.toNat
def k0_dev47 (d0 : Dev nD) : Nat :=
  let c0_i32_1606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1605 : BitVec 32 := 1#32
  let v1497 : BitVec 32 := Scalar.muli v7 c1_i32_1605
  let v1498 : BitVec 32 := Scalar.addi c0_i32_1606 v1497
  v1498.toNat
def k0_dev48 (d0 : Dev nD) : Nat :=
  let c0_i32_1616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1615 : BitVec 32 := 1#32
  let v1507 : BitVec 32 := Scalar.muli v5 c1_i32_1615
  let v1508 : BitVec 32 := Scalar.addi c0_i32_1616 v1507
  v1508.toNat
def k0_dev49 (d0 : Dev nD) : Nat :=
  let c0_i32_1734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1733 : BitVec 32 := 1#32
  let v1623 : BitVec 32 := Scalar.muli v5 c1_i32_1733
  let v1624 : BitVec 32 := Scalar.addi c0_i32_1734 v1623
  v1624.toNat
def k0_dev50 (d0 : Dev nD) : Nat :=
  let c0_i32_1737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1736 : BitVec 32 := 1#32
  let v1625 : BitVec 32 := Scalar.muli v7 c1_i32_1736
  let v1626 : BitVec 32 := Scalar.addi c0_i32_1737 v1625
  v1626.toNat
def k0_dev51 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1746 : BitVec 32 := 1#32
  let v1627 : BitVec 32 := Scalar.muli v7 c1_i32_1746
  let v1628 : BitVec 32 := Scalar.addi c0_i32_1747 v1627
  v1628.toNat
def k0_dev52 (d0 : Dev nD) : Nat :=
  let c0_i32_1757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1756 : BitVec 32 := 1#32
  let v1637 : BitVec 32 := Scalar.muli v5 c1_i32_1756
  let v1638 : BitVec 32 := Scalar.addi c0_i32_1757 v1637
  v1638.toNat
def k0_dev53 (d0 : Dev nD) : Nat :=
  let c0_i32_1875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1874 : BitVec 32 := 1#32
  let v1753 : BitVec 32 := Scalar.muli v5 c1_i32_1874
  let v1754 : BitVec 32 := Scalar.addi c0_i32_1875 v1753
  v1754.toNat
def k0_dev54 (d0 : Dev nD) : Nat :=
  let c0_i32_1878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1877 : BitVec 32 := 1#32
  let v1755 : BitVec 32 := Scalar.muli v7 c1_i32_1877
  let v1756 : BitVec 32 := Scalar.addi c0_i32_1878 v1755
  v1756.toNat
def k0_dev55 (d0 : Dev nD) : Nat :=
  let c0_i32_1888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1887 : BitVec 32 := 1#32
  let v1757 : BitVec 32 := Scalar.muli v7 c1_i32_1887
  let v1758 : BitVec 32 := Scalar.addi c0_i32_1888 v1757
  v1758.toNat
def k0_dev56 (d0 : Dev nD) : Nat :=
  let c0_i32_1898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1897 : BitVec 32 := 1#32
  let v1767 : BitVec 32 := Scalar.muli v5 c1_i32_1897
  let v1768 : BitVec 32 := Scalar.addi c0_i32_1898 v1767
  v1768.toNat
def k0_dev57 (d0 : Dev nD) : Nat :=
  let c0_i32_2016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2015 : BitVec 32 := 1#32
  let v1883 : BitVec 32 := Scalar.muli v5 c1_i32_2015
  let v1884 : BitVec 32 := Scalar.addi c0_i32_2016 v1883
  v1884.toNat
def k0_dev58 (d0 : Dev nD) : Nat :=
  let c0_i32_2019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2018 : BitVec 32 := 1#32
  let v1885 : BitVec 32 := Scalar.muli v7 c1_i32_2018
  let v1886 : BitVec 32 := Scalar.addi c0_i32_2019 v1885
  v1886.toNat
def k0_dev59 (d0 : Dev nD) : Nat :=
  let c0_i32_2029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2028 : BitVec 32 := 1#32
  let v1887 : BitVec 32 := Scalar.muli v7 c1_i32_2028
  let v1888 : BitVec 32 := Scalar.addi c0_i32_2029 v1887
  v1888.toNat
def k0_dev60 (d0 : Dev nD) : Nat :=
  let c0_i32_2039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2038 : BitVec 32 := 1#32
  let v1897 : BitVec 32 := Scalar.muli v5 c1_i32_2038
  let v1898 : BitVec 32 := Scalar.addi c0_i32_2039 v1897
  v1898.toNat
def k0_dev61 (d0 : Dev nD) : Nat :=
  let c0_i32_2167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2160 : BitVec 32 := 1#32
  let v2023 : BitVec 32 := Scalar.addi v2 c1_i32_2160
  let c16_i32_2161 : BitVec 32 := 16#32
  let v2024 : BitVec 32 := Scalar.remsi v2023 c16_i32_2161
  let c1_i32_2166 : BitVec 32 := 1#32
  let v2025 : BitVec 32 := Scalar.muli v2024 c1_i32_2166
  let v2026 : BitVec 32 := Scalar.addi c0_i32_2167 v2025
  v2026.toNat
def k0_dev62 (d0 : Dev nD) : Nat :=
  let c0_i32_2177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2170 : BitVec 32 := 2#32
  let v2035 : BitVec 32 := Scalar.addi v2 c2_i32_2170
  let c16_i32_2171 : BitVec 32 := 16#32
  let v2036 : BitVec 32 := Scalar.remsi v2035 c16_i32_2171
  let c1_i32_2176 : BitVec 32 := 1#32
  let v2037 : BitVec 32 := Scalar.muli v2036 c1_i32_2176
  let v2038 : BitVec 32 := Scalar.addi c0_i32_2177 v2037
  v2038.toNat
def k0_dev63 (d0 : Dev nD) : Nat :=
  let c0_i32_2187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2180 : BitVec 32 := 3#32
  let v2047 : BitVec 32 := Scalar.addi v2 c3_i32_2180
  let c16_i32_2181 : BitVec 32 := 16#32
  let v2048 : BitVec 32 := Scalar.remsi v2047 c16_i32_2181
  let c1_i32_2186 : BitVec 32 := 1#32
  let v2049 : BitVec 32 := Scalar.muli v2048 c1_i32_2186
  let v2050 : BitVec 32 := Scalar.addi c0_i32_2187 v2049
  v2050.toNat
def k0_dev64 (d0 : Dev nD) : Nat :=
  let c0_i32_2197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2190 : BitVec 32 := 4#32
  let v2059 : BitVec 32 := Scalar.addi v2 c4_i32_2190
  let c16_i32_2191 : BitVec 32 := 16#32
  let v2060 : BitVec 32 := Scalar.remsi v2059 c16_i32_2191
  let c1_i32_2196 : BitVec 32 := 1#32
  let v2061 : BitVec 32 := Scalar.muli v2060 c1_i32_2196
  let v2062 : BitVec 32 := Scalar.addi c0_i32_2197 v2061
  v2062.toNat
def k0_dev65 (d0 : Dev nD) : Nat :=
  let c0_i32_2207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2200 : BitVec 32 := 5#32
  let v2071 : BitVec 32 := Scalar.addi v2 c5_i32_2200
  let c16_i32_2201 : BitVec 32 := 16#32
  let v2072 : BitVec 32 := Scalar.remsi v2071 c16_i32_2201
  let c1_i32_2206 : BitVec 32 := 1#32
  let v2073 : BitVec 32 := Scalar.muli v2072 c1_i32_2206
  let v2074 : BitVec 32 := Scalar.addi c0_i32_2207 v2073
  v2074.toNat
def k0_dev66 (d0 : Dev nD) : Nat :=
  let c0_i32_2217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2210 : BitVec 32 := 6#32
  let v2083 : BitVec 32 := Scalar.addi v2 c6_i32_2210
  let c16_i32_2211 : BitVec 32 := 16#32
  let v2084 : BitVec 32 := Scalar.remsi v2083 c16_i32_2211
  let c1_i32_2216 : BitVec 32 := 1#32
  let v2085 : BitVec 32 := Scalar.muli v2084 c1_i32_2216
  let v2086 : BitVec 32 := Scalar.addi c0_i32_2217 v2085
  v2086.toNat
def k0_dev67 (d0 : Dev nD) : Nat :=
  let c0_i32_2227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2220 : BitVec 32 := 7#32
  let v2095 : BitVec 32 := Scalar.addi v2 c7_i32_2220
  let c16_i32_2221 : BitVec 32 := 16#32
  let v2096 : BitVec 32 := Scalar.remsi v2095 c16_i32_2221
  let c1_i32_2226 : BitVec 32 := 1#32
  let v2097 : BitVec 32 := Scalar.muli v2096 c1_i32_2226
  let v2098 : BitVec 32 := Scalar.addi c0_i32_2227 v2097
  v2098.toNat
def k0_dev68 (d0 : Dev nD) : Nat :=
  let c0_i32_2237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2230 : BitVec 32 := 8#32
  let v2107 : BitVec 32 := Scalar.addi v2 c8_i32_2230
  let c16_i32_2231 : BitVec 32 := 16#32
  let v2108 : BitVec 32 := Scalar.remsi v2107 c16_i32_2231
  let c1_i32_2236 : BitVec 32 := 1#32
  let v2109 : BitVec 32 := Scalar.muli v2108 c1_i32_2236
  let v2110 : BitVec 32 := Scalar.addi c0_i32_2237 v2109
  v2110.toNat
def k0_dev69 (d0 : Dev nD) : Nat :=
  let c0_i32_2247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2240 : BitVec 32 := 9#32
  let v2119 : BitVec 32 := Scalar.addi v2 c9_i32_2240
  let c16_i32_2241 : BitVec 32 := 16#32
  let v2120 : BitVec 32 := Scalar.remsi v2119 c16_i32_2241
  let c1_i32_2246 : BitVec 32 := 1#32
  let v2121 : BitVec 32 := Scalar.muli v2120 c1_i32_2246
  let v2122 : BitVec 32 := Scalar.addi c0_i32_2247 v2121
  v2122.toNat
def k0_dev70 (d0 : Dev nD) : Nat :=
  let c0_i32_2257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2250 : BitVec 32 := 10#32
  let v2131 : BitVec 32 := Scalar.addi v2 c10_i32_2250
  let c16_i32_2251 : BitVec 32 := 16#32
  let v2132 : BitVec 32 := Scalar.remsi v2131 c16_i32_2251
  let c1_i32_2256 : BitVec 32 := 1#32
  let v2133 : BitVec 32 := Scalar.muli v2132 c1_i32_2256
  let v2134 : BitVec 32 := Scalar.addi c0_i32_2257 v2133
  v2134.toNat
def k0_dev71 (d0 : Dev nD) : Nat :=
  let c0_i32_2267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2260 : BitVec 32 := 11#32
  let v2143 : BitVec 32 := Scalar.addi v2 c11_i32_2260
  let c16_i32_2261 : BitVec 32 := 16#32
  let v2144 : BitVec 32 := Scalar.remsi v2143 c16_i32_2261
  let c1_i32_2266 : BitVec 32 := 1#32
  let v2145 : BitVec 32 := Scalar.muli v2144 c1_i32_2266
  let v2146 : BitVec 32 := Scalar.addi c0_i32_2267 v2145
  v2146.toNat
def k0_dev72 (d0 : Dev nD) : Nat :=
  let c0_i32_2277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2270 : BitVec 32 := 12#32
  let v2155 : BitVec 32 := Scalar.addi v2 c12_i32_2270
  let c16_i32_2271 : BitVec 32 := 16#32
  let v2156 : BitVec 32 := Scalar.remsi v2155 c16_i32_2271
  let c1_i32_2276 : BitVec 32 := 1#32
  let v2157 : BitVec 32 := Scalar.muli v2156 c1_i32_2276
  let v2158 : BitVec 32 := Scalar.addi c0_i32_2277 v2157
  v2158.toNat
def k0_dev73 (d0 : Dev nD) : Nat :=
  let c0_i32_2287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2280 : BitVec 32 := 13#32
  let v2167 : BitVec 32 := Scalar.addi v2 c13_i32_2280
  let c16_i32_2281 : BitVec 32 := 16#32
  let v2168 : BitVec 32 := Scalar.remsi v2167 c16_i32_2281
  let c1_i32_2286 : BitVec 32 := 1#32
  let v2169 : BitVec 32 := Scalar.muli v2168 c1_i32_2286
  let v2170 : BitVec 32 := Scalar.addi c0_i32_2287 v2169
  v2170.toNat
def k0_dev74 (d0 : Dev nD) : Nat :=
  let c0_i32_2297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2290 : BitVec 32 := 14#32
  let v2179 : BitVec 32 := Scalar.addi v2 c14_i32_2290
  let c16_i32_2291 : BitVec 32 := 16#32
  let v2180 : BitVec 32 := Scalar.remsi v2179 c16_i32_2291
  let c1_i32_2296 : BitVec 32 := 1#32
  let v2181 : BitVec 32 := Scalar.muli v2180 c1_i32_2296
  let v2182 : BitVec 32 := Scalar.addi c0_i32_2297 v2181
  v2182.toNat
def k0_dev75 (d0 : Dev nD) : Nat :=
  let c0_i32_2307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2300 : BitVec 32 := 15#32
  let v2191 : BitVec 32 := Scalar.addi v2 c15_i32_2300
  let c16_i32_2301 : BitVec 32 := 16#32
  let v2192 : BitVec 32 := Scalar.remsi v2191 c16_i32_2301
  let c1_i32_2306 : BitVec 32 := 1#32
  let v2193 : BitVec 32 := Scalar.muli v2192 c1_i32_2306
  let v2194 : BitVec 32 := Scalar.addi c0_i32_2307 v2193
  v2194.toNat
abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 4
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .local _ .vmem, ⟨0, _⟩ => ⟨S4096x8192, .f32⟩
  | .local _ .vmem, ⟨1, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Steps.lean ====
module

public import proofs.«01_k».proof.Proof.Gen.KernelIdeal.Skeleton

@[expose] public section

noncomputable section

/-! The kernel's body, cut at the steps of its rings instead of at the printer's windows: a prologue, fourteen
ring steps of one text, a last ring step, and the exchange of maxima with the quantiser. -/

namespace Cert.Steps

open Cert.KernelIdeal Cert.KernelIdeal.Gen
open Idealize.ShloMosaic Idealize.SL.Sem

variable {F : FTy → Type} [FloatOps F]

/-- The staged activations, the staged weights, the staged output block; the two communication buffers; the buffer of maxima. -/
abbrev xM : Memref sig .tc .vmem S4096x768 .bf16 := Memref.whole cc0_stg0_0
abbrev wM : Memref sig .tc .vmem S768x8192 .bf16 := Memref.whole cc0_stg1_0
abbrev oM : Memref sig .tc .vmem S256x8192 .f32 := Memref.whole cc0_stg2_0
abbrev lM : Memref sig .tc .vmem S2x256x4096 .f32 := Memref.whole cc0_scratch0
abbrev rM : Memref sig .tc .vmem S2x256x4096 .f32 := Memref.whole cc0_scratch1
abbrev aM : Memref sig .tc .vmem S16x128 .f32 := Memref.whole cc0_scratch8

/-! ## Rectangles -/

theorem inb_slot (p : Fin 2) : ∀ a, (![p.val, 0, 0] : Fin 3 → Nat) a + S1x256x4096.size a ≤ S2x256x4096.size a := by
  revert p; decide
theorem inb_half (p : Fin 2) (h : Fin 2) : ∀ a, (![p.val, 0, 2048 * h.val] : Fin 3 → Nat) a + S1x256x2048.size a ≤ S2x256x4096.size a := by
  revert p h; decide
theorem inb_sem2 (p : Fin 2) : ∀ a, (![p.val] : Fin 1 → Nat) a + S1.size a ≤ S2.size a := by revert p; decide
theorem inb_sem16 (p : Fin 16) : ∀ a, (![p.val] : Fin 1 → Nat) a + S1.size a ≤ S16.size a := by revert p; decide
theorem inb_row (p : Fin 16) : ∀ a, (![p.val, 0] : Fin 2 → Nat) a + S1x128.size a ≤ S16x128.size a := by revert p; decide
theorem inb_wcol (b : Fin 4) : ∀ a, (![0, 2048 * b.val] : Fin 2 → Nat) a + S768x2048.size a ≤ S768x8192.size a := by revert b; decide
theorem inb_ocol (b : Fin 4) : ∀ a, (![0, 2048 * b.val] : Fin 2 → Nat) a + S256x2048.size a ≤ S256x8192.size a := by revert b; decide

abbrev halfR (p h : Fin 2) : Rect S2x256x4096 := Rect.unit (s := S2x256x4096) ![p.val, 0, 2048 * h.val] S1x256x2048.size (inb_half p h)
abbrev wR (b : Fin 4) : Rect S768x8192 := Rect.unit (s := S768x8192) ![0, 2048 * b.val] S768x2048.size (inb_wcol b)
abbrev oR (b : Fin 4) : Rect S256x8192 := Rect.unit (s := S256x8192) ![0, 2048 * b.val] S256x2048.size (inb_ocol b)
/-- 256 rows of the activations, from the offsets `o`. -/
abbrev InX (o : Fin 2 → Nat) : Prop := ∀ a, o a + S256x768.size a ≤ S4096x768.size a
abbrev xR (o : Fin 2 → Nat) (ho : InX o) : Rect S4096x768 := Rect.unit (s := S4096x768) o S256x768.size ho
/-- The offsets of the rows multiplied at step `k` for the one ring and for the other. -/
abbrev xo1 (d0 : Dev nD) (k : Fin 16) : Fin 2 → Nat := k0_off1 d0 (BitVec.ofNat 32 k.val)
abbrev xo2 (d0 : Dev nD) (k : Fin 16) : Fin 2 → Nat := k0_off2 d0 (BitVec.ofNat 32 k.val)
abbrev rowR (p : Fin 16) : Rect S16x128 := Rect.unit (s := S16x128) ![p.val, 0] S1x128.size (inb_row p)

/-- Slot `p` of a communication buffer, as a plain block. -/
abbrev slotM (M : Memref sig .tc .vmem S2x256x4096 .f32) (p : Fin 2) : Memref sig .tc .vmem S256x4096 .f32 :=
  (M.slice (Rect.unit (s := S2x256x4096) ![p.val, 0, 0] S1x256x4096.size (inb_slot p)) (fun _ => rfl)).squeeze S256x4096 squeezes_S1x256x4096_S256x4096
/-- Row `r` of the buffer of maxima. -/
abbrev rowM (r : Fin 16) : Memref sig .tc .vmem S128 .f32 :=
  (aM.slice (rowR r) (fun _ => rfl)).squeeze S128 squeezes_S1x128_S128
/-- One semaphore of an array of two, of an array of sixteen. -/
abbrev sem2 (A : DmaSems sig S2) (p : Fin 2) : DmaSem sig := ((A.slice (Rect.unit (s := S2) ![p.val] S1.size (inb_sem2 p))).squeeze S_ squeezes_S1_S_).sem
abbrev sem16 (A : DmaSems sig S16) (p : Fin 16) : DmaSem sig := ((A.slice (Rect.unit (s := S16) ![p.val] S1.size (inb_sem16 p))).squeeze S_ squeezes_S1_S_).sem

abbrev barS : Sem sig := (SemArray.scalar (sig.barrier 0 rfl) : Sems sig S_).sem

/-- The slot read at step `s`, the slot landed in at step `s`. -/
abbrev cur (s : Fin 15) : Fin 2 := ⟨s.val % 2, Nat.mod_lt _ (by decide)⟩
abbrev nxt (s : Fin 15) : Fin 2 := ⟨(s.val + 1) % 2, Nat.mod_lt _ (by decide)⟩

/-! ## The pieces -/

/-- One column block of a product, written to one half of slot 0 of a communication buffer. -/
def seed (M : Memref sig .tc .vmem S2x256x4096 .f32) (o : Fin 2 → Nat) (ho : InX o) (h : Fin 2) (b : Fin 4) : Prog (TpuEff nD τ sig (Elt F) Λ₀ .tc) PUnit := do
  let x : Vec F S256x768 .bf16 ← Prog.lift (.load xM (xR o ho).toLoadRect (View.loadsAt_vmem h_S256x768))
  let w : Vec F S768x2048 .bf16 ← Prog.lift (.load wM (wR b).toLoadRect (View.loadsAt_vmem h_S768x2048))
  let _u : Vec F S1x256x2048 .f32 ← Prog.lift (.load M (halfR 0 h).toLoadRect (View.loadsAt_vmem h_S1x256x2048))
  Prog.lift (.store M (halfR 0 h) (k0_pay1 x w) Finset.univ (View.stores_vmem_bits_univ h_S1x256x2048 rfl) (.inl rfl))

/-- One column block of a product, written to the output block. -/
def mmBlk (o : Fin 2 → Nat) (ho : InX o) (b : Fin 4) : Prog (TpuEff nD τ sig (Elt F) Λ₀ .tc) PUnit := do
  let x : Vec F S256x768 .bf16 ← Prog.lift (.load xM (xR o ho).toLoadRect (View.loadsAt_vmem h_S256x768))
  let w : Vec F S768x2048 .bf16 ← Prog.lift (.load wM (wR b).toLoadRect (View.loadsAt_vmem h_S768x2048))
  let _u : Vec F S256x2048 .f32 ← Prog.lift (.load oM (oR b).toLoadRect (View.loadsAt_vmem h_S256x2048))
  Prog.lift (.store oM (oR b) (k0_pay5 x w) Finset.univ (View.stores_vmem_bits_univ h_S256x2048 rfl) (.inl rfl))

/-- The barrier with both neighbours. -/
def barrier (L R : Dev nD) : Prog (TpuEff nD τ sig (Elt F) Λ₀ .tc) PUnit := do
  semSignalWord L barS 1#32
  semSignalWord R barS 1#32
  semWaitWord barS 2#32

/-- The first summands of both rings. -/
def seeds (d0 : Dev nD) : Prog (TpuEff nD τ sig (Elt F) Λ₀ .tc) PUnit := do
  seed lM (xo1 d0 0) (k0_off1_inb d0 0) 0 0
  seed rM (xo2 d0 0) (k0_off2_inb d0 0) 0 2
  seed lM (xo1 d0 0) (k0_off1_inb d0 0) 1 1
  seed rM (xo2 d0 0) (k0_off2_inb d0 0) 1 3

/-- The four column blocks of the summands that step `k - 1` adds. -/
def mm (d0 : Dev nD) (k : Fin 16) : Prog (TpuEff nD τ sig (Elt F) Λ₀ .tc) PUnit := do
  mmBlk (xo1 d0 k) (k0_off1_inb d0 k) 0
  mmBlk (xo2 d0 k) (k0_off2_inb d0 k) 2
  mmBlk (xo1 d0 k) (k0_off1_inb d0 k) 1
  mmBlk (xo2 d0 k) (k0_off2_inb d0 k) 3

/-- A copy of slot `p` of a communication buffer to slot `q` of device `D`'s. -/
def sendSlot (M : Memref sig .tc .vmem S2x256x4096 .f32) (A B : DmaSems sig S2) (p q : Fin 2) (D : Dev nD) : Prog (TpuEff nD τ sig (Elt F) Λ₀ .tc) PUnit :=
  Prog.lift (.enqueueDma (slotM M p) (.remote (Dev.tc D) (slotM M q) (.dma (sem2 A p))) (.dma (sem2 B q))
    ((View.wordExact_bits rfl).reshape _ _) ((View.wordExact_bits rfl).reshape _ _) ⟨⟨rfl, Or.inl rfl⟩, trivial⟩)

/-- The wait for the own copy out of slot `p`, and for the neighbour's into slot `q`. -/
def waitSent (M : Memref sig .tc .vmem S2x256x4096 .f32) (A : DmaSems sig S2) (p q : Fin 2) : Prog (TpuEff nD τ sig (Elt F) Λ₀ .tc) PUnit :=
  Prog.lift (.waitDma2 (sem2 A p) (slotM M q) (slotM M p) ((View.wordExact_bits rfl).reshape _ _) ((View.wordExact_bits rfl).reshape _ _))
def waitLanded (M : Memref sig .tc .vmem S2x256x4096 .f32) (B : DmaSems sig S2) (p q : Fin 2) : Prog (TpuEff nD τ sig (Elt F) Λ₀ .tc) PUnit :=
  Prog.lift (.waitDma2 (sem2 B q) (slotM M p) (slotM M q) ((View.wordExact_bits rfl).reshape _ _) ((View.wordExact_bits rfl).reshape _ _))

/-- One column block of the partial sum that came in and one of the own summand, read. -/
def readSlot (M : Memref sig .tc .vmem S2x256x4096 .f32) (q h : Fin 2) (b : Fin 4) : Prog (TpuEff nD τ sig (Elt F) Λ₀ .tc) (Vec F S1x256x2048 .f32 × Vec F S256x2048 .f32) := do
  let v : Vec F S1x256x2048 .f32 ← Prog.lift (.load M (halfR q h).toLoadRect (View.loadsAt_vmem h_S1x256x2048))
  let u : Vec F S256x2048 .f32 ← Prog.lift (.load oM (oR b).toLoadRect (View.loadsAt_vmem h_S256x2048))
  pure (v, u)
/-- One column block written to a slot. -/
def storeSlot (M : Memref sig .tc .vmem S2x256x4096 .f32) (q h : Fin 2) (v : FVec F S1x256x2048 .f32) : Prog (TpuEff nD τ sig (Elt F) Λ₀ .tc) PUnit := do
  let _u : Vec F S1x256x2048 .f32 ← Prog.lift (.load M (halfR q h).toLoadRect (View.loadsAt_vmem h_S1x256x2048))
  Prog.lift (.store M (halfR q h) v Finset.univ (View.stores_vmem_bits_univ h_S1x256x2048 rfl) (.inl rfl))
/-- One column block written to the output. -/
def storeOut (b : Fin 4) (v : FVec F S256x2048 .f32) : Prog (TpuEff nD τ sig (Elt F) Λ₀ .tc) PUnit := do
  let _u : Vec F S256x2048 .f32 ← Prog.lift (.load oM (oR b).toLoadRect (View.loadsAt_vmem h_S256x2048))
  Prog.lift (.store oM (oR b) v Finset.univ (View.stores_vmem_bits_univ h_S256x2048 rfl) (.inl rfl))

/-- The own summands added to what came in, for one half of the columns of each ring, back into the slots. -/
def foldHalf (q h : Fin 2) (b b' : Fin 4) : Prog (TpuEff nD τ sig (Elt F) Λ₀ .tc) PUnit := do
  let x ← readSlot lM q h b
  let y ← readSlot rM q h b'
  storeSlot lM q h (k0_pay14 x.1 x.2)
  storeSlot rM q h (k0_pay14 y.1 y.2)
/-- The same into the output, negative sums cut at zero. -/
def lastHalf (q h : Fin 2) (b b' : Fin 4) : Prog (TpuEff nD τ sig (Elt F) Λ₀ .tc) PUnit := do
  let x ← readSlot lM q h b
  let y ← readSlot rM q h b'
  storeOut b (k0_pay146 x.1 x.2)
  storeOut b' (k0_pay146 y.1 y.2)

/-- The credits that the two neighbours wait for before step `s`. -/
def credits : Prog (TpuEff nD τ sig (Elt F) Λ₀ .tc) PUnit := do
  semWaitWord cc0_scratch6.sem 1#32
  semWaitWord cc0_scratch7.sem 1#32
/-- The credits signalled to the two neighbours after a step. -/
def grants (L R : Dev nD) : Prog (TpuEff nD τ sig (Elt F) Λ₀ .tc) PUnit := do
  semSignalWord L cc0_scratch6.sem 1#32
  semSignalWord R cc0_scratch7.sem 1#32

/-- The copies of step `s`, the product of the block they will be added to, and the waits. -/
def exchange (d0 : Dev nD) (s : Fin 15) (R L : Dev nD) : Prog (TpuEff nD τ sig (Elt F) Λ₀ .tc) PUnit := do
  sendSlot lM cc0_scratch2 cc0_scratch3 (cur s) (nxt s) R
  sendSlot rM cc0_scratch4 cc0_scratch5 (cur s) (nxt s) L
  mm d0 s.succ
  waitSent lM cc0_scratch2 (cur s) (nxt s)
  waitLanded lM cc0_scratch3 (cur s) (nxt s)
  waitSent rM cc0_scratch4 (cur s) (nxt s)
  waitLanded rM cc0_scratch5 (cur s) (nxt s)

/-- A ring step but for its wait for credits. -/
def step (d0 : Dev nD) (s : Fin 15) (R L L' R' : Dev nD) : Prog (TpuEff nD τ sig (Elt F) Λ₀ .tc) PUnit := do
  exchange d0 s R L
  foldHalf (nxt s) 0 0 2
  foldHalf (nxt s) 1 1 3
  grants L' R'
  credits

/-- The last ring step. -/
def lastStep (d0 : Dev nD) (R L : Dev nD) : Prog (TpuEff nD τ sig (Elt F) Λ₀ .tc) PUnit := do
  exchange d0 14 R L
  lastHalf (nxt 14) 0 0 2
  lastHalf (nxt 14) 1 1 3

/-- The own maximum written to row 0. -/
def ownMax : Prog (TpuEff nD τ sig (Elt F) Λ₀ .tc) PUnit := do
  let v : Vec F S256x8192 .f32 ← Prog.lift (.load oM (Rect.unit (s := S256x8192) ![0, 0] S256x8192.size inb_S256x8192_S256x8192_0_0).toLoadRect (View.loadsAt_vmem h_S256x8192))
  let _u : Vec F S1x128 .f32 ← Prog.lift (.load aM (rowR 0).toLoadRect (View.loadsAt_vmem h_S1x128))
  Prog.lift (.store aM (rowR 0) (k0_pay151 v) Finset.univ (View.stores_vmem_bits_univ h_S1x128 rfl) (.inl rfl))
/-- Row 0 copied to row `r` of device `D`. -/
def sendMax (r : Fin 16) (D : Dev nD) : Prog (TpuEff nD τ sig (Elt F) Λ₀ .tc) PUnit :=
  Prog.lift (.enqueueDma (rowM 0) (.remote (Dev.tc D) (rowM r) (.dma (sem16 cc0_scratch9 r))) (.dma (sem16 cc0_scratch10 r))
    ((View.wordExact_bits rfl).reshape _ _) ((View.wordExact_bits rfl).reshape _ _) ⟨⟨rfl, Or.inl rfl⟩, trivial⟩)
def waitMaxSent (r : Fin 16) : Prog (TpuEff nD τ sig (Elt F) Λ₀ .tc) PUnit :=
  Prog.lift (.waitDma2 (sem16 cc0_scratch9 r) (rowM r) (rowM 0) ((View.wordExact_bits rfl).reshape _ _) ((View.wordExact_bits rfl).reshape _ _))
def waitMaxLanded (r : Fin 16) : Prog (TpuEff nD τ sig (Elt F) Λ₀ .tc) PUnit :=
  Prog.lift (.waitDma2 (sem16 cc0_scratch10 r) (rowM 0) (rowM r) ((View.wordExact_bits rfl).reshape _ _) ((View.wordExact_bits rfl).reshape _ _))

/-- One column block of the output quantised with the maximum read from the sixteen rows. -/
def quantBlk (g : Vec F S16x128 .f32) (b : Fin 4) : Prog (TpuEff nD τ sig (Elt F) Λ₀ .tc) PUnit := do
  let v : Vec F S256x2048 .f32 ← Prog.lift (.load oM (oR b).toLoadRect (View.loadsAt_vmem h_S256x2048))
  storeOut b (k0_pay155 g v)
def quant : Prog (TpuEff nD τ sig (Elt F) Λ₀ .tc) PUnit := do
  let g : Vec F S16x128 .f32 ← Prog.lift (.load aM (Rect.unit (s := S16x128) ![0, 0] S16x128.size inb_S16x128_S16x128_0_0).toLoadRect (View.loadsAt_vmem h_S16x128))
  quantBlk g 0
  quantBlk g 1
  quantBlk g 2
  quantBlk g 3

/-! ## The devices the body addresses -/

/-- The neighbours the copies of step `s` go to, and the neighbours granted credit after it, as the program names them. -/
def tgtR (d0 : Dev nD) : Fin 15 → Dev nD := fun
  | 0 => ⟨k0_dev3 d0, k0_dev3_lt d0⟩ | 1 => ⟨k0_dev7 d0, k0_dev7_lt d0⟩ | 2 => ⟨k0_dev11 d0, k0_dev11_lt d0⟩ | 3 => ⟨k0_dev15 d0, k0_dev15_lt d0⟩
  | 4 => ⟨k0_dev19 d0, k0_dev19_lt d0⟩ | 5 => ⟨k0_dev23 d0, k0_dev23_lt d0⟩ | 6 => ⟨k0_dev27 d0, k0_dev27_lt d0⟩ | 7 => ⟨k0_dev31 d0, k0_dev31_lt d0⟩
  | 8 => ⟨k0_dev35 d0, k0_dev35_lt d0⟩ | 9 => ⟨k0_dev39 d0, k0_dev39_lt d0⟩ | 10 => ⟨k0_dev43 d0, k0_dev43_lt d0⟩ | 11 => ⟨k0_dev47 d0, k0_dev47_lt d0⟩
  | 12 => ⟨k0_dev51 d0, k0_dev51_lt d0⟩ | 13 => ⟨k0_dev55 d0, k0_dev55_lt d0⟩ | 14 => ⟨k0_dev59 d0, k0_dev59_lt d0⟩
def tgtL (d0 : Dev nD) : Fin 15 → Dev nD := fun
  | 0 => ⟨k0_dev4 d0, k0_dev4_lt d0⟩ | 1 => ⟨k0_dev8 d0, k0_dev8_lt d0⟩ | 2 => ⟨k0_dev12 d0, k0_dev12_lt d0⟩ | 3 => ⟨k0_dev16 d0, k0_dev16_lt d0⟩
  | 4 => ⟨k0_dev20 d0, k0_dev20_lt d0⟩ | 5 => ⟨k0_dev24 d0, k0_dev24_lt d0⟩ | 6 => ⟨k0_dev28 d0, k0_dev28_lt d0⟩ | 7 => ⟨k0_dev32 d0, k0_dev32_lt d0⟩
  | 8 => ⟨k0_dev36 d0, k0_dev36_lt d0⟩ | 9 => ⟨k0_dev40 d0, k0_dev40_lt d0⟩ | 10 => ⟨k0_dev44 d0, k0_dev44_lt d0⟩ | 11 => ⟨k0_dev48 d0, k0_dev48_lt d0⟩
  | 12 => ⟨k0_dev52 d0, k0_dev52_lt d0⟩ | 13 => ⟨k0_dev56 d0, k0_dev56_lt d0⟩ | 14 => ⟨k0_dev60 d0, k0_dev60_lt d0⟩
def grL (d0 : Dev nD) : Fin 14 → Dev nD := fun
  | 0 => ⟨k0_dev5 d0, k0_dev5_lt d0⟩ | 1 => ⟨k0_dev9 d0, k0_dev9_lt d0⟩ | 2 => ⟨k0_dev13 d0, k0_dev13_lt d0⟩ | 3 => ⟨k0_dev17 d0, k0_dev17_lt d0⟩
  | 4 => ⟨k0_dev21 d0, k0_dev21_lt d0⟩ | 5 => ⟨k0_dev25 d0, k0_dev25_lt d0⟩ | 6 => ⟨k0_dev29 d0, k0_dev29_lt d0⟩ | 7 => ⟨k0_dev33 d0, k0_dev33_lt d0⟩
  | 8 => ⟨k0_dev37 d0, k0_dev37_lt d0⟩ | 9 => ⟨k0_dev41 d0, k0_dev41_lt d0⟩ | 10 => ⟨k0_dev45 d0, k0_dev45_lt d0⟩ | 11 => ⟨k0_dev49 d0, k0_dev49_lt d0⟩
  | 12 => ⟨k0_dev53 d0, k0_dev53_lt d0⟩ | 13 => ⟨k0_dev57 d0, k0_dev57_lt d0⟩
def grR (d0 : Dev nD) : Fin 14 → Dev nD := fun
  | 0 => ⟨k0_dev6 d0, k0_dev6_lt d0⟩ | 1 => ⟨k0_dev10 d0, k0_dev10_lt d0⟩ | 2 => ⟨k0_dev14 d0, k0_dev14_lt d0⟩ | 3 => ⟨k0_dev18 d0, k0_dev18_lt d0⟩
  | 4 => ⟨k0_dev22 d0, k0_dev22_lt d0⟩ | 5 => ⟨k0_dev26 d0, k0_dev26_lt d0⟩ | 6 => ⟨k0_dev30 d0, k0_dev30_lt d0⟩ | 7 => ⟨k0_dev34 d0, k0_dev34_lt d0⟩
  | 8 => ⟨k0_dev38 d0, k0_dev38_lt d0⟩ | 9 => ⟨k0_dev42 d0, k0_dev42_lt d0⟩ | 10 => ⟨k0_dev46 d0, k0_dev46_lt d0⟩ | 11 => ⟨k0_dev50 d0, k0_dev50_lt d0⟩
  | 12 => ⟨k0_dev54 d0, k0_dev54_lt d0⟩ | 13 => ⟨k0_dev58 d0, k0_dev58_lt d0⟩
/-- The device that row `r + 1` of its buffer of maxima is copied to. -/
def tgtA (d0 : Dev nD) : Fin 15 → Dev nD := fun
  | 0 => ⟨k0_dev61 d0, k0_dev61_lt d0⟩ | 1 => ⟨k0_dev62 d0, k0_dev62_lt d0⟩ | 2 => ⟨k0_dev63 d0, k0_dev63_lt d0⟩ | 3 => ⟨k0_dev64 d0, k0_dev64_lt d0⟩
  | 4 => ⟨k0_dev65 d0, k0_dev65_lt d0⟩ | 5 => ⟨k0_dev66 d0, k0_dev66_lt d0⟩ | 6 => ⟨k0_dev67 d0, k0_dev67_lt d0⟩ | 7 => ⟨k0_dev68 d0, k0_dev68_lt d0⟩
  | 8 => ⟨k0_dev69 d0, k0_dev69_lt d0⟩ | 9 => ⟨k0_dev70 d0, k0_dev70_lt d0⟩ | 10 => ⟨k0_dev71 d0, k0_dev71_lt d0⟩ | 11 => ⟨k0_dev72 d0, k0_dev72_lt d0⟩
  | 12 => ⟨k0_dev73 d0, k0_dev73_lt d0⟩ | 13 => ⟨k0_dev74 d0, k0_dev74_lt d0⟩ | 14 => ⟨k0_dev75 d0, k0_dev75_lt d0⟩

/-- `f` at the numbers below `n`, one after the other. -/
def seqN {n : ℕ} (f : Fin n → Prog (TpuEff nD τ sig (Elt F) Λ₀ .tc) PUnit) : Prog (TpuEff nD τ sig (Elt F) Λ₀ .tc) PUnit :=
  Fin.foldr n (fun i p => (f i).bind fun _ => p) (.ret ⟨⟩)

/-- The kernel's body by its steps. -/
def body : Prog (TpuEff nD τ sig (Elt F) Λ₀ .tc) PUnit := do
  let d0 : Dev nD ← Prog.lift .deviceId
  barrier ⟨k0_dev1 d0, k0_dev1_lt d0⟩ ⟨k0_dev2 d0, k0_dev2_lt d0⟩
  seeds d0
  seqN fun s : Fin 14 => step d0 s.castSucc (tgtR d0 s.castSucc) (tgtL d0 s.castSucc) (grL d0 s) (grR d0 s)
  lastStep d0 (tgtR d0 14) (tgtL d0 14)
  ownMax
  seqN fun r : Fin 15 => sendMax r.succ (tgtA d0 r)
  seqN fun r : Fin 15 => waitMaxSent r.succ
  seqN fun r : Fin 15 => waitMaxLanded r.succ
  quant

end Cert.Steps
-- ==== Proof.BodyEq.lean ====
module

public import proofs.«01_k».proof.Proof.Steps

@[expose] public section

namespace Cert.Steps

open Cert.KernelIdeal Cert.KernelIdeal.Gen Idealize.ShloMosaic Idealize.SL Idealize.SL.Sem

universe v
variable {F : FTy → Type} [FloatOps F]

/-- Two programs are equal whose first effects are and whose continuations are at every answer. -/
theorem op_congr {E : Type → Type v} {α β : Type} {e e' : E β} {k k' : β → Prog E α} (he : e = e') (hk : ∀ x, k x = k' x) : Prog.op e k = Prog.op e' k' := by
  subst he; exact congrArg _ (funext hk)

set_option maxRecDepth 65536 in
set_option maxHeartbeats 0 in
/-- The kernel's body is its steps one after the other. -/
theorem body_eq : cc0_body (F := F) xM (Memref.isWhole_whole _) wM (Memref.isWhole_whole _) oM (Memref.isWhole_whole _) lM (Memref.isWhole_whole _) rM (Memref.isWhole_whole _)
    cc0_scratch2 cc0_scratch3 cc0_scratch4 cc0_scratch5 cc0_scratch6 cc0_scratch7 aM (Memref.isWhole_whole _) cc0_scratch9 cc0_scratch10 = body := by
  repeat (refine op_congr rfl fun _ => ?_)
  rfl

end Cert.Steps
-- ==== Proof.Contents.lean ====
module

public import proofs.«01_k».proof.Proof.Steps
public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.Exec
public import Idealize.ShloMosaic.Lib.VecWindow
public import Idealize.ShloMosaic.Lib.Pipeline.Value
public import Idealize.ShloMosaic.Lib.Transfers
public import Idealize.ShloMosaic.Lib.ValueIdx
public import Idealize.ShloMosaic.Lib.ValueIdxCoords
public import Idealize.ShloMosaic.Lib.ValueLayout
public import Idealize.ShloMosaic.Harness.Basic

@[expose] public section

noncomputable section

/-! What the kernel's buffers hold, by blocks: the output block as four blocks of 2048 columns, a slot of a
communication buffer as two, the buffer of maxima as sixteen rows; and what a load or a store at one of the
body's rectangles reads or leaves. -/

namespace Cert.Contents

open Cert.KernelIdeal Cert.KernelIdeal.Gen Cert.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the staging library's copy, and the protocol's with two duties. -/
abbrev UU : Type := UR sig nD τ × URounds (GSem nD τ sig) (Fin 2)
local notation "𝕄" => MT nD τ sig ℕ (Elt F) ℕ UU ℕ
abbrev 𝒱₀ : Variants := Variants.none

variable {α : Type}

/-- The output's contents from its four column blocks. -/
def blocks (v : Fin 4 → S256x2048.Idx → α) : S256x8192.Idx → α := fun i =>
  v ⟨(i 1).val / 2048, Nat.div_lt_of_lt_mul (i 1).isLt⟩ (ix2 (i 0) ⟨(i 1).val % 2048, Nat.mod_lt _ (by decide)⟩)
/-- A slot's contents from its two column blocks. -/
def halves (v : Fin 2 → S256x2048.Idx → α) : S256x4096.Idx → α := fun i =>
  v ⟨(i 1).val / 2048, Nat.div_lt_of_lt_mul (i 1).isLt⟩ (ix2 (i 0) ⟨(i 1).val % 2048, Nat.mod_lt _ (by decide)⟩)

theorem blocks_emb (v : Fin 4 → S256x2048.Idx → α) (b : Fin 4) (y : S256x2048.Idx) : blocks v ((oR b).emb y) = v b y := by
  have h1 : (y 1).val < 2048 := (y 1).isLt
  have e0 : ((oR b).emb y 0) = y 0 := Fin.ext (by simp [Rect.emb, Rect.unit])
  have e1 : ((oR b).emb y 1).val = 2048 * b.val + (y 1).val := by simp [Rect.emb, Rect.unit]
  have hd : ((oR b).emb y 1).val / 2048 = b.val := by omega
  have hm : ((oR b).emb y 1).val % 2048 = (y 1).val := by omega
  have hy : y = ix2 (y 0) (y 1) := eq_ix2 y
  unfold blocks
  rw [e0]
  conv_rhs => rw [hy]
  exact congrArg₂ (fun (a : Fin 4) (z : S256x2048.Idx) => v a z) (Fin.ext hd) (congrArg (ix2 (y 0)) (Fin.ext hm))

/-- Every index of the output lies in one of the four column blocks. -/
theorem oR_cover (i : S256x8192.Idx) : ∃ b y, (oR b).emb y = i := by
  have hi : (i 1).val < 8192 := (i 1).isLt
  refine ⟨⟨(i 1).val / 2048, by omega⟩, ix2 (i 0) ⟨(i 1).val % 2048, Nat.mod_lt _ (by decide)⟩, ?_⟩
  funext a
  match a with
  | ⟨0, _⟩ => exact Fin.ext (by simp [Rect.emb, Rect.unit])
  | ⟨1, _⟩ => exact Fin.ext (by simp [Rect.emb, Rect.unit]; omega)

theorem oR_inj {b b' : Fin 4} {y y' : S256x2048.Idx} (h : (oR b).emb y = (oR b').emb y') : b = b' := by
  have h1 : (y 1).val < 2048 := (y 1).isLt
  have h2 : (y' 1).val < 2048 := (y' 1).isLt
  have e : ((oR b).emb y 1).val = ((oR b').emb y' 1).val := by rw [h]
  have e1 : ((oR b).emb y 1).val = 2048 * b.val + (y 1).val := by simp [Rect.emb, Rect.unit]
  have e2 : ((oR b').emb y' 1).val = 2048 * b'.val + (y' 1).val := by simp [Rect.emb, Rect.unit]
  exact Fin.ext (by omega)

/-- Any contents of the output are four blocks. -/
theorem blocks_parts (f : S256x8192.Idx → α) : blocks (fun b y => f ((oR b).emb y)) = f := by
  funext i
  obtain ⟨b, y, rfl⟩ := oR_cover i
  rw [blocks_emb]

theorem read_blocks (v : Fin 4 → FVec F S256x2048 .f32) (b : Fin 4) : (oM.access (oR b)).read (Elt F) (blocks v) = v b :=
  funext fun y => blocks_emb v b y

theorem write_blocks (v : Fin 4 → FVec F S256x2048 .f32) (b : Fin 4) (w : FVec F S256x2048 .f32) :
    (oM.access (oR b)).write (Elt F) (blocks v) w Finset.univ = blocks (Function.update v b w) := by
  funext i
  obtain ⟨b', y, rfl⟩ := oR_cover i
  by_cases h : b' = b
  · subst h
    rw [blocks_emb, Function.update_self]
    exact View.write_emb_of_mem (v := oM.access (oR b')) _ _ (Finset.mem_univ y)
  · rw [blocks_emb, Function.update_of_ne h, View.write_of_not_mem, blocks_emb]
    intro hm
    obtain ⟨y', -, e⟩ := Finset.mem_map.mp hm
    exact h (oR_inj e).symm

/-! ## Slots -/

theorem slot_emb (M : Memref sig .tc .vmem S2x256x4096 .f32) (q : Fin 2) (x : S256x4096.Idx) :
    (slotM M q).view.emb x = M.view.emb (ix3 q (x 0) (x 1)) := by
  have h : Shape.reshapeEquiv (Shape.Squeezes.numel_eq squeezes_S1x256x4096_S256x4096) x = ix3 (⟨0, Nat.one_pos⟩ : Fin 1) (x 0) (x 1) :=
    (congrArg _ (eq_ix2 x)).trans (reshapeEquiv_ix2_1ab _ (x 0) (x 1))
  refine (congrArg (fun z => M.view.emb ((Rect.unit (s := S2x256x4096) ![q.val, 0, 0] S1x256x4096.size (inb_slot q)).emb z)) h).trans (congrArg M.view.emb ?_)
  funext a
  match a with
  | ⟨0, _⟩ => exact Fin.ext (show q.val + 1 * 0 = q.val by omega)
  | ⟨1, _⟩ => exact Fin.ext (show 0 + 1 * (x 0).val = (x 0).val by omega)
  | ⟨2, _⟩ => exact Fin.ext (show 0 + 1 * (x 1).val = (x 1).val by omega)

/-- An element of half `h` of a slot, by its index in the slot. -/
def inSlot (h : Fin 2) (y : S1x256x2048.Idx) : S256x4096.Idx :=
  ix2 (y 1) ⟨2048 * h.val + (y 2).val, by have h2 : (y 2).val < 2048 := (y 2).isLt; have := h.isLt; omega⟩

theorem half_emb (M : Memref sig .tc .vmem S2x256x4096 .f32) (q h : Fin 2) (y : S1x256x2048.Idx) :
    (M.access (halfR q h)).emb y = (slotM M q).view.emb (inSlot h y) := by
  rw [slot_emb]
  show M.view.emb ((halfR q h).emb y) = _
  refine congrArg _ ?_
  have h0 : (y 0).val < 1 := (y 0).isLt
  funext a
  match a with
  | ⟨0, _⟩ => exact Fin.ext (show q.val + 1 * (y 0).val = q.val by omega)
  | ⟨1, _⟩ => exact Fin.ext (show 0 + 1 * (y 1).val = (y 1).val by omega)
  | ⟨2, _⟩ => exact Fin.ext (show 2048 * h.val + 1 * (y 2).val = 2048 * h.val + (y 2).val by omega)

theorem half_subset (M : Memref sig .tc .vmem S2x256x4096 .f32) (q h : Fin 2) : (M.access (halfR q h)).set ⊆ (slotM M q).view.set := by
  intro i hi
  obtain ⟨y, -, rfl⟩ := Finset.mem_map.mp hi
  rw [half_emb]
  exact Finset.mem_map_of_mem _ (Finset.mem_univ _)

/-- Every index of a slot lies in one of its two halves. -/
theorem half_cover (x : S256x4096.Idx) : ∃ h y, inSlot h y = x := by
  have hi : (x 1).val < 4096 := (x 1).isLt
  refine ⟨⟨(x 1).val / 2048, by omega⟩, ix3 0 (x 0) ⟨(x 1).val % 2048, Nat.mod_lt _ (by decide)⟩, ?_⟩
  funext a
  match a with
  | ⟨0, _⟩ => rfl
  | ⟨1, _⟩ => exact Fin.ext (show 2048 * ((x 1).val / 2048) + (x 1).val % 2048 = (x 1).val by omega)

theorem inSlot_inj {h h' : Fin 2} {y y' : S1x256x2048.Idx} (e : inSlot h y = inSlot h' y') : h = h' := by
  have h1 : (y 2).val < 2048 := (y 2).isLt
  have h2 : (y' 2).val < 2048 := (y' 2).isLt
  have e1 : 2048 * h.val + (y 2).val = 2048 * h'.val + (y' 2).val := congrArg (fun x : S256x4096.Idx => (x 1).val) e
  exact Fin.ext (by omega)

theorem halves_inSlot (v : Fin 2 → S256x2048.Idx → α) (h : Fin 2) (y : S1x256x2048.Idx) : halves v (inSlot h y) = v h (ix2 (y 1) (y 2)) := by
  have h1 : (y 2).val < 2048 := (y 2).isLt
  exact congrArg₂ (fun (a : Fin 2) (z : S256x2048.Idx) => v a z) (Fin.ext (show (2048 * h.val + (y 2).val) / 2048 = h.val by omega))
    (congrArg (ix2 (y 1)) (Fin.ext (show (2048 * h.val + (y 2).val) % 2048 = (y 2).val by omega)))

/-- The column block written to a half, and read from it, without its unit axis. -/
abbrev flat {β : Type} (w : S1x256x2048.Idx → β) : S256x2048.Idx → β := shapeCast S256x2048 w shapeCasts_S1x256x2048_S256x2048
abbrev lift {β : Type} (w : S256x2048.Idx → β) : S1x256x2048.Idx → β := shapeCast S1x256x2048 w shapeCasts_S256x2048_S1x256x2048

theorem lift_apply {β : Type} (x : S256x2048.Idx → β) (y : S1x256x2048.Idx) : lift x y = x (ix2 (y 1) (y 2)) := by
  have h0 : (y 0).val < 1 := (y 0).isLt
  refine shapeCast_apply x _ y _ ?_
  rw [Shape.rowMajor_val_three, Shape.rowMajor_val_two]
  show (y 1).val * 2048 + (y 2).val = (((y 0).val * 256 + (y 1).val) * 2048 + (y 2).val)
  omega
theorem flat_lift {β : Type} (x : S256x2048.Idx → β) : flat (lift x) = x := shapeCast_shapeCast x _ _
theorem lift_flat {β : Type} (x : S1x256x2048.Idx → β) : lift (flat x) = x := shapeCast_shapeCast x _ _

theorem halves_lift (v : Fin 2 → S256x2048.Idx → α) (h : Fin 2) (y : S1x256x2048.Idx) : halves v (inSlot h y) = lift (v h) y :=
  (halves_inSlot v h y).trans (lift_apply (v h) y).symm

theorem halves_parts {β : Type} (f : S256x4096.Idx → β) : halves (fun h => flat fun y => f (inSlot h y)) = f := by
  funext x
  obtain ⟨h, y, rfl⟩ := half_cover x
  rw [halves_lift, lift_flat]

theorem rep_half (M : Memref sig .tc .vmem S2x256x4096 .f32) (q h : Fin 2) (v : Fin 2 → FVec F S256x2048 .f32) :
    (M.access (halfR q h)).read (Elt F) ((slotM M q).view.rep (halves v)) = lift (v h) := by
  funext y
  have e := congrFun (View.read_rep (Val := Elt F) (slotM M q).view (halves v)) (inSlot h y)
  rw [View.read_apply] at e
  rw [View.read_apply, ← halves_lift, ← e, half_emb]

/-- A rectangle of a view, re-indexed, reads at an index what a write through another rectangle put on the element there; what was there, where the write put nothing. -/
theorem read_slice_write {sp : Space} {t t' : Shape} {e : EltTy} (v : View sig .tc sp t e) (r r' : Rect t) (h : t'.numel = r.shape.numel)
    (f : v.ty.Contents (Elt F)) (w : r'.shape.Idx → Elt F e) (x : t'.Idx) (y : r'.shape.Idx) (hxy : (v.slice r').emb y = ((v.slice r).reshape t' h).emb x) :
    ((v.slice r).reshape t' h).read (Elt F) ((v.slice r').write (Elt F) f w Finset.univ) x = w y := by
  rw [View.read_apply]
  have h1 := View.write_emb_of_mem (v := v.slice r') f w (Finset.mem_univ y)
  rw [hxy] at h1
  exact (congrArg _ h1).trans (by rw [cast_cast]; rfl)
theorem read_slice_write_off {sp : Space} {t t' : Shape} {e : EltTy} (v : View sig .tc sp t e) (r r' : Rect t) (h : t'.numel = r.shape.numel)
    (f : v.ty.Contents (Elt F)) (w : r'.shape.Idx → Elt F e) (x : t'.Idx) (hxy : ∀ y, (v.slice r').emb y ≠ ((v.slice r).reshape t' h).emb x) :
    ((v.slice r).reshape t' h).read (Elt F) ((v.slice r').write (Elt F) f w Finset.univ) x = ((v.slice r).reshape t' h).read (Elt F) f x := by
  rw [View.read_apply, View.read_apply]
  refine congrArg _ (View.write_of_not_mem (v := v.slice r') f w Finset.univ fun hm => ?_)
  obtain ⟨y, -, e'⟩ := Finset.mem_map.mp hm
  exact hxy y e'

theorem write_half (M : Memref sig .tc .vmem S2x256x4096 .f32) (q h : Fin 2) (v : Fin 2 → FVec F S256x2048 .f32) (w : FVec F S1x256x2048 .f32) :
    (slotM M q).view.read (Elt F) ((M.access (halfR q h)).write (Elt F) ((slotM M q).view.rep (halves v)) w Finset.univ) = halves (Function.update v h (flat w)) := by
  funext x
  obtain ⟨h', y, rfl⟩ := half_cover x
  rw [halves_lift]
  by_cases e : h' = h
  · subst e
    rw [Function.update_self, lift_flat]
    exact read_slice_write M.view _ (halfR q h') _ _ w _ y (half_emb M q h' y)
  · rw [Function.update_of_ne e, ← halves_lift]
    refine (read_slice_write_off M.view _ (halfR q h) _ _ w _ fun y' e' => ?_).trans (congrFun (View.read_rep (Val := Elt F) (slotM M q).view (halves v)) _)
    exact e (inSlot_inj ((slotM M q).view.emb.injective ((half_emb M q h y').symm.trans e'))).symm

/-! ## The buffers held -/

/-- Slot `q` of a communication buffer of device `c`, with the two column blocks `v`. -/
def slotAt (M : Memref sig .tc .vmem S2x256x4096 .f32) (q : Fin 2) (c : Dev nD) (v : Fin 2 → FVec F S256x2048 .f32) : sProp 𝕄 :=
  (slotM M q).view.loc (c : Thread nD τ) ↦[(slotM M q).view.set]{fullShare} (slotM M q).view.rep (halves v)
/-- The output block of device `c`, with the four column blocks `v`. -/
def outAt (c : Dev nD) (v : Fin 4 → FVec F S256x2048 .f32) : sProp 𝕄 :=
  (oM : Memref sig .tc .vmem S256x8192 .f32).view.loc (c : Thread nD τ) ↦{fullShare} blocks v

theorem slotAt_of (M : Memref sig .tc .vmem S2x256x4096 .f32) (q : Fin 2) (c : Dev nD) (v : Fin 2 → FVec F S256x2048 .f32)
    (f : Buf (Elt F) ((slotM M q).view.loc (c : Thread nD τ))) (h : (slotM M q).view.read (Elt F) f = halves v) :
    ((slotM M q).view.loc (c : Thread nD τ) ↦[(slotM M q).view.set]{fullShare} f : sProp 𝕄) ⊢ slotAt M q c v :=
  pointsTo_rep_of_read (c : Thread nD τ) (slotM M q) f fullShare _ h

theorem slotAt_any (M : Memref sig .tc .vmem S2x256x4096 .f32) (q : Fin 2) (c : Dev nD) (f : Buf (Elt F) ((slotM M q).view.loc (c : Thread nD τ))) :
    ((slotM M q).view.loc (c : Thread nD τ) ↦[(slotM M q).view.set]{fullShare} f : sProp 𝕄) ⊢ iprop(∃ v, slotAt M q c v) := by
  iintro H
  iexists _
  iapply (slotAt_of M q c _ f (halves_parts _).symm)
  iexact H

variable {β : Type} (c : Dev nD)

/-- A load of one half of a slot. -/
theorem wp_loadHalf {M : Memref sig .tc .vmem S2x256x4096 .f32} {q h : Fin 2} {v : Fin 2 → FVec F S256x2048 .f32}
    {hl : M.view.LoadsAt (halfR q h).toLoadRect} {k : Vec F S1x256x2048 .f32 → Prog (TpuEff nD τ sig (Elt F) Λ₀ .tc) β} {Q : β → sProp 𝕄} :
    slotAt M q c v ⊢ iprop((slotAt M q c v -∗ wp frame (wpE (defs₀ (F := F)) 𝒱₀ (c : Thread nD τ) none) Set.univ (k (lift (v h))) Q)
      -∗ wp frame (wpE (defs₀ (F := F)) 𝒱₀ (c : Thread nD τ) none) Set.univ (.op (.load M (halfR q h).toLoadRect hl) k) Q) := by
  have h0 := wp_load_rect (defs := defs₀ (F := F)) (Name := ℕ) (U := UU) (Lvl := ℕ) (Ix := ℕ) (Γ := .empty) 𝒱₀ (c : Thread nD τ) none Set.univ (m := M) (r := halfR q h) (hl := hl) (k := k) (q := fullShare) (Q := Q)
    (f := (slotM M q).view.rep (halves v)) (half_subset M q h)
  rw [rep_half] at h0
  exact h0

/-- A store to one half of a slot. -/
theorem wp_storeHalf {M : Memref sig .tc .vmem S2x256x4096 .f32} {q h : Fin 2} {v : Fin 2 → FVec F S256x2048 .f32} {w : FVec F S1x256x2048 .f32}
    {hx : (M.access (halfR q h)).Stores Finset.univ} {hm : (Finset.univ : Finset (halfR q h).shape.Idx) = Finset.univ ∨ ∀ a, (halfR q h).stride a = 1}
    {k : PUnit → Prog (TpuEff nD τ sig (Elt F) Λ₀ .tc) β} {Q : β → sProp 𝕄} :
    slotAt M q c v ⊢ iprop((slotAt M q c (Function.update v h (flat w)) -∗ wp frame (wpE (defs₀ (F := F)) 𝒱₀ (c : Thread nD τ) none) Set.univ (k ⟨⟩) Q)
      -∗ wp frame (wpE (defs₀ (F := F)) 𝒱₀ (c : Thread nD τ) none) Set.univ (.op (.store M (halfR q h) w Finset.univ hx hm) k) Q) := by
  have h0 := wp_store (defs := defs₀ (F := F)) (Name := ℕ) (U := UU) (Lvl := ℕ) (Ix := ℕ) (Γ := .empty) 𝒱₀ (c : Thread nD τ) none Set.univ (m := M) (r := halfR q h) (w := w) (hx := hx) (hm := hm) (k := k) (Q := Q) (S := (slotM M q).view.set)
    (f := (slotM M q).view.rep (halves v)) (half_subset M q h)
  iintro H Hk
  iapply (show slotAt M q c v ⊢ _ from h0) $$ H
  iintro H
  iapply Hk
  iapply (slotAt_of M q c _ _ (write_half M q h v w))
  iexact H

/-- A load of one column block of the output. -/
theorem wp_loadOut {b : Fin 4} {v : Fin 4 → FVec F S256x2048 .f32}
    {hl : (oM : Memref sig .tc .vmem S256x8192 .f32).view.LoadsAt (oR b).toLoadRect} {k : Vec F S256x2048 .f32 → Prog (TpuEff nD τ sig (Elt F) Λ₀ .tc) β} {Q : β → sProp 𝕄} :
    outAt c v ⊢ iprop((outAt c v -∗ wp frame (wpE (defs₀ (F := F)) 𝒱₀ (c : Thread nD τ) none) Set.univ (k (v b)) Q)
      -∗ wp frame (wpE (defs₀ (F := F)) 𝒱₀ (c : Thread nD τ) none) Set.univ (.op (.load oM (oR b).toLoadRect hl) k) Q) := by
  have h0 := wp_load_rect (defs := defs₀ (F := F)) (Name := ℕ) (U := UU) (Lvl := ℕ) (Ix := ℕ) (Γ := .empty) 𝒱₀ (c : Thread nD τ) none Set.univ (m := oM) (r := oR b) (hl := hl) (k := k) (q := fullShare) (Q := Q)
    (f := blocks v) (Finset.subset_univ _)
  rw [read_blocks] at h0
  exact h0

/-- A store to one column block of the output. -/
theorem wp_storeOut {b : Fin 4} {v : Fin 4 → FVec F S256x2048 .f32} {w : FVec F S256x2048 .f32}
    {hx : ((oM : Memref sig .tc .vmem S256x8192 .f32).access (oR b)).Stores Finset.univ} {hm : (Finset.univ : Finset (oR b).shape.Idx) = Finset.univ ∨ ∀ a, (oR b).stride a = 1}
    {k : PUnit → Prog (TpuEff nD τ sig (Elt F) Λ₀ .tc) β} {Q : β → sProp 𝕄} :
    outAt c v ⊢ iprop((outAt c (Function.update v b w) -∗ wp frame (wpE (defs₀ (F := F)) 𝒱₀ (c : Thread nD τ) none) Set.univ (k ⟨⟩) Q)
      -∗ wp frame (wpE (defs₀ (F := F)) 𝒱₀ (c : Thread nD τ) none) Set.univ (.op (.store oM (oR b) w Finset.univ hx hm) k) Q) := by
  have h0 := wp_store (defs := defs₀ (F := F)) (Name := ℕ) (U := UU) (Lvl := ℕ) (Ix := ℕ) (Γ := .empty) 𝒱₀ (c : Thread nD τ) none Set.univ (m := oM) (r := oR b) (hx := hx) (hm := hm) (w := w) (k := k) (Q := Q)
    (f := blocks v) (Finset.subset_univ _)
  rw [write_blocks] at h0
  exact h0

/-! ## The staged arrays -/

/-- 256 rows of staged activations, one column block of staged weights. -/
abbrev rowsOf (X : S4096x768.Idx → Elt F .bf16) (o : Fin 2 → Nat) (ho : InX o) : Vec F S256x768 .bf16 := fun y => X ((xR o ho).emb y)
abbrev colsOf (W : S768x8192.Idx → Elt F .bf16) (b : Fin 4) : Vec F S768x2048 .bf16 := fun y => W ((wR b).emb y)

def xAt (c : Dev nD) (q : PosShare TreeShare) (X : S4096x768.Idx → Elt F .bf16) : sProp 𝕄 :=
  (xM : Memref sig .tc .vmem S4096x768 .bf16).view.loc (c : Thread nD τ) ↦{q} X
def wAt (c : Dev nD) (q : PosShare TreeShare) (W : S768x8192.Idx → Elt F .bf16) : sProp 𝕄 :=
  (wM : Memref sig .tc .vmem S768x8192 .bf16).view.loc (c : Thread nD τ) ↦{q} W

theorem wp_loadX {o : Fin 2 → Nat} {ho : InX o} {q : PosShare TreeShare} {X : S4096x768.Idx → Elt F .bf16}
    {hl : (xM : Memref sig .tc .vmem S4096x768 .bf16).view.LoadsAt (xR o ho).toLoadRect} {k : Vec F S256x768 .bf16 → Prog (TpuEff nD τ sig (Elt F) Λ₀ .tc) β} {Q : β → sProp 𝕄} :
    xAt c q X ⊢ iprop((xAt c q X -∗ wp frame (wpE (defs₀ (F := F)) 𝒱₀ (c : Thread nD τ) none) Set.univ (k (rowsOf X o ho)) Q)
      -∗ wp frame (wpE (defs₀ (F := F)) 𝒱₀ (c : Thread nD τ) none) Set.univ (.op (.load xM (xR o ho).toLoadRect hl) k) Q) :=
  wp_load_rect (defs := defs₀ (F := F)) (Name := ℕ) (U := UU) (Lvl := ℕ) (Ix := ℕ) (Γ := .empty) 𝒱₀ (c : Thread nD τ) none Set.univ (m := xM) (r := xR o ho) (hl := hl) (k := k) (q := q) (Q := Q)
    (f := X) (Finset.subset_univ _)
theorem wp_loadW {b : Fin 4} {q : PosShare TreeShare} {W : S768x8192.Idx → Elt F .bf16}
    {hl : (wM : Memref sig .tc .vmem S768x8192 .bf16).view.LoadsAt (wR b).toLoadRect} {k : Vec F S768x2048 .bf16 → Prog (TpuEff nD τ sig (Elt F) Λ₀ .tc) β} {Q : β → sProp 𝕄} :
    wAt c q W ⊢ iprop((wAt c q W -∗ wp frame (wpE (defs₀ (F := F)) 𝒱₀ (c : Thread nD τ) none) Set.univ (k (colsOf W b)) Q)
      -∗ wp frame (wpE (defs₀ (F := F)) 𝒱₀ (c : Thread nD τ) none) Set.univ (.op (.load wM (wR b).toLoadRect hl) k) Q) :=
  wp_load_rect (defs := defs₀ (F := F)) (Name := ℕ) (U := UU) (Lvl := ℕ) (Ix := ℕ) (Γ := .empty) 𝒱₀ (c : Thread nD τ) none Set.univ (m := wM) (r := wR b) (hl := hl) (k := k) (q := q) (Q := Q)
    (f := W) (Finset.subset_univ _)

/-! ## Rows of maxima -/

theorem row_emb (r : Fin 16) (x : S128.Idx) : (rowM r).view.emb x = (aM : Memref sig .tc .vmem S16x128 .f32).view.emb (ix2 r (x 0)) := by
  have h : Shape.reshapeEquiv (Shape.Squeezes.numel_eq squeezes_S1x128_S128) x = ix2 (0 : Fin 1) (x 0) :=
    Shape.reshapeEquiv_eq_of_rowMajor _ (((Shape.rowMajor_val_two _).trans (show 0 * 128 + (x 0).val = (x 0).val by omega)).trans (Shape.rowMajor_val_one _).symm)
  refine (congrArg (fun z => (aM : Memref sig .tc .vmem S16x128 .f32).view.emb ((rowR r).emb z)) h).trans (congrArg _ ?_)
  funext a
  match a with
  | ⟨0, _⟩ => exact Fin.ext (show r.val + 1 * 0 = r.val by omega)
  | ⟨1, _⟩ => exact Fin.ext (show 0 + 1 * (x 0).val = (x 0).val by omega)

/-- A row written through the buffer of maxima, without its unit axis. -/
abbrev flatRow {β : Type} (w : S1x128.Idx → β) : S128.Idx → β := fun x => w (ix2 (0 : Fin 1) (x 0))
/-- The buffer of maxima from its rows. -/
def rowsBuf (w : Fin 16 → S128.Idx → α) : S16x128.Idx → α := fun i => w (i 0) (ix1 (i 1))

/-- Row `r` of the buffer of maxima of device `c`, at share `q`, holding `w`. -/
def rowAt (r : Fin 16) (c : Dev nD) (q : PosShare TreeShare) (w : FVec F S128 .f32) : sProp 𝕄 :=
  (rowM r).view.loc (c : Thread nD τ) ↦[(rowM r).view.set]{q} (rowM r).view.rep w

theorem rowAt_of (r : Fin 16) (c : Dev nD) (q : PosShare TreeShare) (w : FVec F S128 .f32)
    (f : Buf (Elt F) ((rowM r).view.loc (c : Thread nD τ))) (h : (rowM r).view.read (Elt F) f = w) :
    ((rowM r).view.loc (c : Thread nD τ) ↦[(rowM r).view.set]{q} f : sProp 𝕄) ⊢ rowAt r c q w :=
  pointsTo_rep_of_read (c : Thread nD τ) (rowM r) f q _ h

theorem row_set (r : Fin 16) : (rowM r).view.set = ((aM : Memref sig .tc .vmem S16x128 .f32).access (rowR r)).set := View.set_reshape _ _

theorem write_row (r : Fin 16) (f : (aM : Memref sig .tc .vmem S16x128 .f32).view.ty.Contents (Elt F)) (w : FVec F S1x128 .f32) :
    (rowM r).view.read (Elt F) ((aM.access (rowR r)).write (Elt F) f w Finset.univ) = flatRow w := by
  funext x
  refine read_slice_write (aM : Memref sig .tc .vmem S16x128 .f32).view _ (rowR r) _ _ w x (ix2 (0 : Fin 1) (x 0)) ?_
  refine (congrArg (aM : Memref sig .tc .vmem S16x128 .f32).view.emb ?_).trans (row_emb r x).symm
  funext a
  match a with
  | ⟨0, _⟩ => exact Fin.ext (show r.val + 1 * 0 = r.val by omega)
  | ⟨1, _⟩ => exact Fin.ext (show 0 + 1 * (x 0).val = (x 0).val by omega)

theorem rep_row (r : Fin 16) (w : Fin 16 → FVec F S128 .f32) : (rowM r).view.read (Elt F) (rowsBuf w) = w r := by
  funext x
  have h : (rowM r).view.read (Elt F) (rowsBuf w) x = rowsBuf w (ix2 r (x 0)) := congrArg (rowsBuf w) (row_emb r x)
  rw [h]
  exact congrArg (w r) (eq_ix1 x).symm

/-- The elements of row `r`, in the whole buffer. -/
abbrev rowSet (c : Dev nD) (r : Fin 16) : Finset (Idx ((aM : Memref sig .tc .vmem S16x128 .f32).view.loc (c : Thread nD τ))) := (rowM r).view.set

/-- The sixteen rows are the buffer of maxima. -/
theorem rows_join (c : Dev nD) (q : PosShare TreeShare) (w : Fin 16 → FVec F S128 .f32) :
    (bigSep Finset.univ fun r => rowAt r c q (w r) : sProp 𝕄)
      = ((aM : Memref sig .tc .vmem S16x128 .f32).view.loc (c : Thread nD τ) ↦{q} rowsBuf w) := by
  have h1 : ∀ r, (rowAt r c q (w r) : sProp 𝕄) = (aM : Memref sig .tc .vmem S16x128 .f32).view.loc (c : Thread nD τ) ↦[(rowM r).view.set]{q} rowsBuf w := fun r => by
    have e := pointsTo_rep (Ix := ℕ) (Name := ℕ) (U := UU) (Lvl := ℕ) (c : Thread nD τ) (rowM r) (rowsBuf w : Buf (Elt F) ((rowM r).view.loc (c : Thread nD τ))) q
    rw [rep_row] at e
    exact e.symm
  have hd : ∀ r ∈ (Finset.univ : Finset (Fin 16)), ∀ r' ∈ (Finset.univ : Finset (Fin 16)), r ≠ r' → Disjoint (rowSet c r) (rowSet c r') := by
    intro r _ r' _ hr
    rw [Finset.disjoint_left]
    intro i hi hi'
    obtain ⟨x, -, rfl⟩ := Finset.mem_map.mp hi
    obtain ⟨x', -, e⟩ := Finset.mem_map.mp hi'
    have e' : (ix2 r' (x' 0) : S16x128.Idx) = ix2 r (x 0) :=
      (aM : Memref sig .tc .vmem S16x128 .f32).view.emb.injective ((row_emb r' x').symm.trans (e.trans (row_emb r x)))
    exact hr (congrFun e' 0).symm
  have hu : (Finset.univ : Finset (Fin 16)).biUnion (rowSet c) = Finset.univ := by
    ext i
    simp only [Finset.mem_biUnion, Finset.mem_univ, true_and, iff_true]
    refine ⟨i 0, Finset.mem_map.mpr ⟨ix1 (i 1), Finset.mem_univ _, ?_⟩⟩
    exact (row_emb (i 0) _).trans (eq_ix2 (n0 := 16) (n1 := 128) i).symm
  have h2 := pointsTo_biUnion (Ix := ℕ) (Name := ℕ) (U := UU) (Lvl := ℕ) (Val := Elt F) (ℓ := (aM : Memref sig .tc .vmem S16x128 .f32).view.loc (c : Thread nD τ)) (q := q) (f := rowsBuf w)
    Finset.univ (rowSet c) hd
  rw [hu] at h2
  exact (bigSep_congr fun r _ => h1 r).trans h2.symm

end Cert.Contents
-- ==== Proof.Ring.lean ====
module

public import proofs.«01_k».proof.Proof.Contents

@[expose] public section

noncomputable section

/-! The two rings of devices, and the semaphores of the body: which semaphore serves what. -/

namespace Cert.Ring

open Cert.KernelIdeal Cert.KernelIdeal.Gen Cert.Steps Cert.Contents
open Idealize.ShloMosaic Idealize.ShloMosaic.TcCoe

/-- The device `k` places to the right. -/
def rt (c : Dev nD) (k : ℕ) : Dev nD := ⟨(c.val + k) % 16, Nat.mod_lt _ (by decide)⟩
/-- The device ring `ρ` copies to, and the one it receives from: ring 0 sends to the right, ring 1 to the left. -/
def dn : Fin 2 → Dev nD → Dev nD | 0, c => rt c 1 | 1, c => rt c 15
def up : Fin 2 → Dev nD → Dev nD | 0, c => rt c 15 | 1, c => rt c 1

theorem up_dn (ρ : Fin 2) (c : Dev nD) : up ρ (dn ρ c) = c := by revert ρ c; decide
theorem dn_up (ρ : Fin 2) (c : Dev nD) : dn ρ (up ρ c) = c := by revert ρ c; decide
theorem rt_rt (c : Dev nD) (j k : ℕ) : rt (rt c j) k = rt c (j + k) := Fin.ext (by show ((c.val + j) % 16 + k) % 16 = (c.val + (j + k)) % 16; omega)
theorem rt_zero (c : Dev nD) : rt c 0 = c := Fin.ext (by have : c.val < 16 := c.isLt; show (c.val + 0) % 16 = c.val; omega)
theorem rt_full (c : Dev nD) : rt c 16 = c := Fin.ext (by have : c.val < 16 := c.isLt; show (c.val + 16) % 16 = c.val; omega)
theorem up_one (c : Dev nD) : up 1 c = rt c 1 := rfl

/-- The devices in the order of one ring. -/
def around (ρ : Fin 2) : Dev nD ≃ Dev nD := ⟨dn ρ, up ρ, up_dn ρ, dn_up ρ⟩
/-- The devices `k` places to the right, all of them once. -/
def turn (k : Fin 16) : Dev nD ≃ Dev nD where
  toFun c := rt c k.val
  invFun c := rt c (16 - k.val)
  left_inv c := by show rt (rt c _) _ = c; rw [rt_rt, show k.val + (16 - k.val) = 16 by omega, rt_full]
  right_inv c := by show rt (rt c _) _ = c; rw [rt_rt, show (16 - k.val) + k.val = 16 by omega, rt_full]

/-- The parity of a step, and its number among the sixteen. -/
def par (s : ℕ) : Fin 2 := ⟨s % 2, Nat.mod_lt _ (by decide)⟩
def kk (k : ℕ) : Fin 16 := ⟨k % 16, Nat.mod_lt _ (by decide)⟩
theorem par_two (s : ℕ) : par (s + 2) = par s := Fin.ext (by show (s + 2) % 2 = s % 2; omega)
theorem kk_val (k : Fin 16) : kk k.val = k := Fin.ext (Nat.mod_eq_of_lt k.isLt)
theorem par_ne (s : ℕ) : par (s + 1) ≠ par s := fun h => by have := congrArg Fin.val h; simp only [par] at this; omega

/-- Each ring's communication buffer, its two arrays of semaphores, its semaphore of credits. -/
def M : Fin 2 → Memref sig .tc .vmem S2x256x4096 .f32 | 0 => lM | 1 => rM
def A : Fin 2 → DmaSems sig S2 | 0 => cc0_scratch2 | 1 => cc0_scratch4
def B : Fin 2 → DmaSems sig S2 | 0 => cc0_scratch3 | 1 => cc0_scratch5
def Cr : Fin 2 → Sem sig | 0 => cc0_scratch6.sem | 1 => cc0_scratch7.sem

/-- The body's own semaphores: credits of a ring, copies out of a slot, copies into a slot, maxima sent, maxima received. -/
abbrev K : Type := Fin 2 ⊕ ((Fin 2 × Fin 2) ⊕ ((Fin 2 × Fin 2) ⊕ (Fin 16 ⊕ Fin 16)))
@[match_pattern] abbrev kCred (ρ : Fin 2) : K := .inl ρ
@[match_pattern] abbrev kSend (ρ p : Fin 2) : K := .inr (.inl (ρ, p))
@[match_pattern] abbrev kRecv (ρ p : Fin 2) : K := .inr (.inr (.inl (ρ, p)))
@[match_pattern] abbrev kAxs (r : Fin 16) : K := .inr (.inr (.inr (.inl r)))
@[match_pattern] abbrev kAxr (r : Fin 16) : K := .inr (.inr (.inr (.inr r)))

def osem : K → SemLoc sig
  | kCred ρ => .reg (Cr ρ)
  | kSend ρ p => .dma (sem2 (A ρ) p)
  | kRecv ρ p => .dma (sem2 (B ρ) p)
  | kAxs r => .dma (sem16 cc0_scratch9 r)
  | kAxr r => .dma (sem16 cc0_scratch10 r)

/-- The number of a semaphore of its kind. -/
def num : K → ℕ
  | kCred ρ => ρ.val
  | kSend ρ p => 103 + 4 * ρ.val + p.val
  | kRecv ρ p => 105 + 4 * ρ.val + p.val
  | kAxs r => 111 + r.val
  | kAxr r => 127 + r.val
def locNum : SemLoc sig → ℕ
  | .reg s => s.val
  | .dma s => 100 + s.val

theorem locNum_osem (k : K) : locNum (osem k) = num k := by revert k; decide
set_option maxRecDepth 100000 in
theorem num_inj : Function.Injective num := by decide
theorem osem_inj : Function.Injective osem := fun k k' h => num_inj (by rw [← locNum_osem, ← locNum_osem, h])
theorem osem_ne_bar (k : K) : osem k ≠ .reg barS := fun h => by
  have h' := (locNum_osem k).symm.trans (congrArg locNum h)
  revert k; decide
theorem ownFacts : Pipeline.OwnSemFacts spec0 osem := by decide

end Cert.Ring
-- ==== Proof.Sched.lean ====
module

public import proofs.«01_k».proof.Proof.Ring

@[expose] public section

noncomputable section

/-! What each buffer holds when, and the schedule of the semaphores: which landing or signal hands over what. -/

namespace Cert.Sched

open Cert.KernelIdeal Cert.KernelIdeal.Gen Cert.Steps Cert.Contents Cert.Ring
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev EP : Emb (UR sig nD τ) (MT nD τ sig ℕ (Elt F) ℕ UU ℕ) := embL
abbrev ER : Emb (URounds (GSem nD τ sig) (Fin 2)) (MT nD τ sig ℕ (Elt F) ℕ UU ℕ) := embR

/-! ## The values -/

/-- The staged activations and weights of every device. -/
abbrev XT (F : FTy → Type) : Type := Dev nD → S4096x768.Idx → Elt F .bf16
abbrev WT (F : FTy → Type) : Type := Dev nD → S768x8192.Idx → Elt F .bf16

variable (X : XT F) (W : WT F)

/-- The column block that half `h` of ring `ρ`'s slots carries. -/
def cb (ρ h : Fin 2) : Fin 4 := ⟨2 * ρ.val + h.val, by omega⟩

/-- The rows that device `c` multiplies `k`-th for ring `ρ`. -/
def rowsK : Fin 2 → Dev nD → Fin 16 → Vec F S256x768 .bf16
  | 0, c, k => rowsOf (X c) (xo1 c k) (k0_off1_inb c k)
  | 1, c, k => rowsOf (X c) (xo2 c k) (k0_off2_inb c k)
/-- The `k`-th summand of device `c` for ring `ρ`, one half of its columns. -/
def blk (ρ : Fin 2) (c : Dev nD) (k : Fin 16) (h : Fin 2) : FVec F S256x2048 .f32 := k0_pay5 (rowsK X ρ c k) (colsOf (W c) (cb ρ h))
/-- The partial sum that device `c` sends on at step `s` of ring `ρ`. -/
def acc (ρ : Fin 2) : ℕ → Dev nD → Fin 2 → FVec F S256x2048 .f32
  | 0, c => fun h => blk X W ρ c 0 h
  | s + 1, c => fun h => addf (acc ρ s (up ρ c) h) (blk X W ρ c (kk (s + 1)) h)
/-- The finished sum of device `c`'s block, cut at zero, one column block. -/
def resK (ρ : Fin 2) (c : Dev nD) (h : Fin 2) : FVec F S256x2048 .f32 := k0_pay146 (lift (acc X W ρ 14 (up ρ c) h)) (blk X W ρ c 15 h)
def res (c : Dev nD) : Fin 4 → FVec F S256x2048 .f32 := fun b => resK X W ⟨b.val / 2, by omega⟩ c ⟨b.val % 2, by omega⟩
theorem res_cb (c : Dev nD) (ρ h : Fin 2) : res X W c (cb ρ h) = resK X W ρ c h := by
  match ρ, h with
  | 0, 0 => rfl
  | 0, 1 => rfl
  | 1, 0 => rfl
  | 1, 1 => rfl
/-- The maximum of device `c`'s block, as the row it sends. -/
def lmax (c : Dev nD) : FVec F S128 .f32 := flatRow (k0_pay151 (blocks (res X W c)))
/-- The row `r` of device `c` once all have landed: the maximum of the device `r` places to the left. -/
def rowVal (c : Dev nD) (r : Fin 16) : FVec F S128 .f32 := lmax X W (rt c (16 - r.val))
/-- The block device `c` writes: its sum quantised with the maximum of all. -/
def fin (c : Dev nD) : Fin 4 → FVec F S256x2048 .f32 := fun b => k0_pay155 (rowsBuf (rowVal X W c)) (res X W c b)

/-! ## The cells -/

abbrev barC (c : Dev nD) : GSem nD τ sig := ((c : Thread nD τ), .reg barS)
abbrev cell (k : K) (c : Dev nD) : GSem nD τ sig := ((c : Thread nD τ), osem k)

/-- What a copy of a slot and of a row of maxima counts. -/
def N : ℕ := (slotM lM 0).view.dmaCredit
def Nax : ℕ := (rowM 0).view.dmaCredit
theorem N_pos : 0 < N := View.dmaCredit_pos _ (by decide)
theorem Nax_pos : 0 < Nax := View.dmaCredit_pos _ (by decide)

/-- A slot at contents not chosen; a row of maxima at contents not chosen. -/
def slotAny (ρ q : Fin 2) (c : Dev nD) : sProp 𝕄 := iprop(∃ v, slotAt (M ρ) q c v)
/-- Row `r` of device `d`, not landed in yet. -/
def item (r : ℕ) (d : Dev nD) : sProp 𝕄 := iprop((∃ w, rowAt (kk r) d fullShare w) ∗ reached ER (cell (kAxr (kk r)) d) 0)
/-- The rows that travel with ring 1 from device `c` at step `s`. -/
def trav (c : Dev nD) (s : ℕ) : sProp 𝕄 := bigSep (Finset.Ico (s + 1) 16) fun r => item r (rt c s)
def travOn (ρ : Fin 2) (c : Dev nD) (s : ℕ) : sProp 𝕄 := if ρ = 1 then trav c s else iprop(emp)

/-- The rows other than row 0. -/
def others : Finset (Fin 16) := Finset.univ.erase 0
theorem others_ne : others.Nonempty := ⟨1, by decide⟩

/-! ## The schedule -/

/-- Whether round `r` of a semaphore takes place. -/
def act : K → ℕ → Prop
  | kCred _, r => r < 14
  | kSend _ p, r => 2 * r + p.val < 15
  | kRecv _ q, r => 2 * r + 1 - q.val < 15
  | kAxs j, r => r = 0 ∧ j ≠ 0
  | kAxr j, r => r = 0 ∧ j ≠ 0
instance (k : K) (r : ℕ) : Decidable (act k r) := by unfold act; split <;> infer_instance

def amt : K → ℕ
  | kCred _ => 1
  | kSend _ _ => N
  | kRecv _ _ => N
  | kAxs _ => Nax
  | kAxr _ => Nax
theorem amt_pos (k : K) : 0 < amt k := by
  unfold amt; split
  · exact Nat.one_pos
  · exact N_pos
  · exact N_pos
  · exact Nax_pos
  · exact Nax_pos

/-- A neighbour's slot 1, empty for the first copy. -/
def barPay (ρ : Fin 2) (c : Dev nD) : sProp 𝕄 := iprop(slotAny ρ 1 (dn ρ c) ∗ reached ER (cell (kRecv ρ 1) (dn ρ c)) 0)
/-- The neighbour's slot that the copy of step `r + 1` goes to. -/
def credPay (ρ : Fin 2) (c : Dev nD) (r : ℕ) : sProp 𝕄 :=
  iprop(slotAny ρ (par r) (dn ρ c) ∗ reached ER (cell (kRecv ρ (par r)) (dn ρ c)) ((r + 1) / 2))
def sendPay (ρ p : Fin 2) (c : Dev nD) (r : ℕ) : sProp 𝕄 := slotAt (M ρ) p c (acc X W ρ (2 * r + p.val) c)
/-- What the copy of step `s` brings to device `c`. -/
def landPay (ρ q : Fin 2) (c : Dev nD) (s : ℕ) : sProp 𝕄 :=
  iprop(slotAt (M ρ) q c (acc X W ρ s (up ρ c)) ∗ reached ER (cell (kCred ρ) (up ρ c)) s ∗ travOn ρ (up ρ c) s)

def pay : K → Dev nD → ℕ → sProp 𝕄
  | kCred ρ, c, r => credPay ρ c r
  | kSend ρ p, c, r => sendPay X W ρ p c r
  | kRecv ρ q, c, r => landPay X W ρ q c (2 * r + 1 - q.val)
  | kAxs j, c, _ => rowAt 0 c (Transfers.dealOf fullShare others j) (lmax X W c)
  | kAxr j, c, _ => rowAt j c fullShare (rowVal X W c j)

/-- Which of the body's own semaphores this is. -/
def which (sm : SemLoc sig) : Option K := Function.partialInv osem sm
theorem which_osem (k : K) : which (osem k) = some k := Function.partialInv_left osem_inj k

def Rd : Rounds.Schedule (GSem nD τ sig) (Fin 2) 𝕄 where
  duties g r := if g.1.2 = .tc then (if g.2 = .reg barS then (if r = 0 then Finset.univ else ∅) else
    match which g.2 with | none => ∅ | some k => if act k r then {0} else ∅) else ∅
  unitless _ := False
  amount g _ _ := if g.2 = .reg barS then 1 else match which g.2 with | none => 1 | some k => amt k
  payload g r d := if g.2 = .reg barS then barPay d g.1.1 else match which g.2 with | none => iprop(emp) | some k => pay X W k g.1.1 r
  amount_pos g _ _ _ := by
    split
    · exact Nat.one_pos
    · split
      · exact Nat.one_pos
      · exact amt_pos _

instance pay_storable (k : K) (c : Dev nD) (r : ℕ) : BI.Storable (upEmb : UEmb _ 𝕄) (pay X W k c r) := by
  unfold pay credPay sendPay landPay travOn trav item slotAny slotAt rowAt
  split <;> (try split) <;> infer_instance
instance barPay_storable (ρ : Fin 2) (c : Dev nD) : BI.Storable (upEmb : UEmb _ 𝕄) (barPay (F := F) ρ c) := by
  unfold barPay slotAny slotAt
  infer_instance
instance Rd_payload_storable (g : GSem nD τ sig) (r : ℕ) (d : Fin 2) : BI.Storable (upEmb : UEmb _ 𝕄) ((Rd X W).payload g r d) := by
  show BI.Storable upEmb (if g.2 = .reg barS then barPay d g.1.1 else match which g.2 with | none => iprop(emp) | some k => pay X W k g.1.1 r)
  split
  · infer_instance
  · split <;> infer_instance

section Facts

variable (c : Dev nD)

theorem duties_bar : (Rd X W).duties (barC c) 0 = Finset.univ := by dsimp only [Rd]; rw [if_pos rfl, if_pos rfl, if_pos rfl]
theorem duties_bar_later (r : ℕ) (hr : 1 ≤ r) : (Rd X W).duties (barC c) r = ∅ := by
  dsimp only [Rd]; rw [if_pos rfl, if_pos rfl, if_neg (by omega)]
theorem duties_cell (k : K) (r : ℕ) : (Rd X W).duties (cell k c) r = if act k r then {0} else ∅ := by
  dsimp only [Rd]; rw [if_pos rfl, if_neg (osem_ne_bar k), which_osem]
theorem amount_bar (r : ℕ) (d : Fin 2) : (Rd X W).amount (barC c) r d = 1 := by dsimp only [Rd]; exact if_pos rfl
theorem amount_cell (k : K) (r : ℕ) (d : Fin 2) : (Rd X W).amount (cell k c) r d = amt k := by
  dsimp only [Rd]; rw [if_neg (osem_ne_bar k), which_osem]
theorem payload_bar (r : ℕ) (d : Fin 2) : (Rd X W).payload (barC c) r d = barPay d c := by dsimp only [Rd]; exact if_pos rfl
theorem payload_cell (k : K) (r : ℕ) (d : Fin 2) : (Rd X W).payload (cell k c) r d = pay X W k c r := by
  dsimp only [Rd]; rw [if_neg (osem_ne_bar k), which_osem]

theorem mem_duties (k : K) (r : ℕ) (h : act k r) : (0 : Fin 2) ∈ (Rd X W).duties (cell k c) r := by
  rw [duties_cell, if_pos h]; exact Finset.mem_singleton_self _
theorem duties_none (k : K) (r : ℕ) (h : ¬ act k r) : (Rd X W).duties (cell k c) r = ∅ := by rw [duties_cell, if_neg h]
theorem expect_bar : (Rd X W).expect (barC c) 0 = 2 := by
  unfold Schedule.expect Schedule.amountOf; rw [duties_bar, Fin.sum_univ_two, amount_bar, amount_bar]
theorem expect_cell (k : K) (r : ℕ) (h : act k r) : (Rd X W).expect (cell k c) r = amt k := by
  unfold Schedule.expect Schedule.amountOf; rw [duties_cell, if_pos h, Finset.sum_singleton, amount_cell]
theorem rest_bar : bigSep ((Rd X W).duties (barC c) 0 \ ∅) (fun u => (Rd X W).payload (barC c) 0 u) = iprop(barPay 0 c ∗ barPay (F := F) 1 c) := by
  rw [Finset.sdiff_empty, duties_bar, bigSep_fin_two, payload_bar, payload_bar]; rfl
theorem rest_cell (k : K) (r : ℕ) (h : act k r) :
    bigSep ((Rd X W).duties (cell k c) r \ ∅) (fun u => (Rd X W).payload (cell k c) r u) = pay X W k c r := by
  rw [Finset.sdiff_empty, duties_cell, if_pos h, bigSep_singleton, payload_cell]

end Facts

/-! ## Levels -/

/-- A credit at index `i` stands at level `i`. -/
def L (g : GSem nD τ sig) : Finset ℕ := if g.1.2 = .tc then Finset.range 64 else ∅
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 64 := if_pos rfl

/-- Everything owed stands above level `b`. -/
def Hi (b : ℕ) (O : CellTallies nD τ sig ℕ) : Prop := ∀ g u, 0 < O g u → g.1.2 = .tc ∧ b < u ∧ u < 64

theorem Hi.add {b : ℕ} {O O' : CellTallies nD τ sig ℕ} (h : Hi b O) (h' : Hi b O') : Hi b (O + O') := fun g u hu => by
  rw [Pi.add_apply, Finsupp.add_apply] at hu
  rcases Nat.add_pos_iff_pos_or_pos.mp hu with hu | hu
  · exact h g u hu
  · exact h' g u hu
theorem Hi.zero {b : ℕ} : Hi b 0 := fun _ _ hu => absurd hu (Nat.lt_irrefl 0)
theorem Hi.at {b : ℕ} (c : Dev nD) (sm : SemLoc sig) (i n : ℕ) (h : b < i) (h' : i < 64) : Hi b (tallyAt ((c : Thread nD τ), sm) i n) := fun g u hu => by
  rw [tallyAt_apply] at hu
  split at hu
  · next hg => obtain ⟨rfl, rfl⟩ := hg; exact ⟨rfl, h, h'⟩
  · exact absurd hu (Nat.lt_irrefl 0)
theorem Hi.sum {ι : Type} {b : ℕ} (s : Finset ι) (f : ι → CellTallies nD τ sig ℕ) (h : ∀ i ∈ s, Hi b (f i)) : Hi b (∑ i ∈ s, f i) := by
  classical
  induction s using Finset.induction_on with
  | empty => rw [Finset.sum_empty]; exact Hi.zero
  | insert a s ha ih =>
    rw [Finset.sum_insert ha]
    exact (h a (Finset.mem_insert_self a s)).add (ih fun i hi => h i (Finset.mem_insert_of_mem hi))

theorem mayWait (c : Dev nD) (sm : SemLoc sig) (i : ℕ) (hi : i < 64) {O : CellTallies nD τ sig ℕ} (h : Hi i O) :
    (levAts L lv : sProp 𝕄) ⊢ MayWait (c : Thread nD τ) sm i O :=
  MayOwe.of_cut (L := L) (lev := lv) i (fun p hp => by rw [Finset.mem_singleton.mp hp, L_tc]; exact Finset.mem_range.mpr hi)
    (fun g u hu => by
      obtain ⟨h1, -, h2⟩ := h g u hu
      unfold L; rw [if_pos h1]; exact Finset.mem_range.mpr h2)
    (fun p hp => by rw [Finset.mem_singleton.mp hp]; exact le_refl _)
    (fun g u hu => (h g u hu).2.1)

/-! ## What is owed -/

/-- The copies of ring `ρ` that device `c` still has to make from step `s` on. -/
def oRing (ρ : Fin 2) (c : Dev nD) (s : ℕ) : CellTallies nD τ sig ℕ :=
  ∑ t ∈ Finset.Ico s 15, tallyAt (cell (kRecv ρ (par (t + 1))) (dn ρ c)) (2 * t + 2) N
/-- The credits it still has to grant. -/
def oCred (ρ : Fin 2) (c : Dev nD) (s : ℕ) : CellTallies nD τ sig ℕ :=
  ∑ t ∈ Finset.Ico s 14, tallyAt (cell (kCred ρ) (up ρ c)) (2 * t + 3) 1
/-- The copies of its maximum that it still has to make from row `s` on. -/
def oAx (c : Dev nD) (s : ℕ) : CellTallies nD τ sig ℕ :=
  ∑ r ∈ Finset.Ico s 16, tallyAt (cell (kAxr (kk r)) (rt c r)) 40 Nax

theorem hi_ring (ρ : Fin 2) (c : Dev nD) (s b : ℕ) (h : b < 2 * s + 2) : Hi b (oRing ρ c s) :=
  Hi.sum _ _ fun t ht => by obtain ⟨h1, h2⟩ := Finset.mem_Ico.mp ht; exact Hi.at _ _ _ _ (by omega) (by omega)
theorem hi_cred (ρ : Fin 2) (c : Dev nD) (s b : ℕ) (h : b < 2 * s + 3) : Hi b (oCred ρ c s) :=
  Hi.sum _ _ fun t ht => by obtain ⟨h1, h2⟩ := Finset.mem_Ico.mp ht; exact Hi.at _ _ _ _ (by omega) (by omega)
theorem hi_ax (c : Dev nD) (s b : ℕ) (h : b < 40) : Hi b (oAx c s) := Hi.sum _ _ fun t _ => Hi.at _ _ _ _ h (by omega)

theorem oRing_step (ρ : Fin 2) (c : Dev nD) (s : ℕ) (h : s < 15) :
    oRing ρ c s = oRing ρ c (s + 1) + tallyAt (cell (kRecv ρ (par (s + 1))) (dn ρ c)) (2 * s + 2) N := by
  unfold oRing; rw [Finset.sum_eq_sum_Ico_succ_bot h, add_comm]
theorem oCred_step (ρ : Fin 2) (c : Dev nD) (s : ℕ) (h : s < 14) :
    oCred ρ c s = oCred ρ c (s + 1) + tallyAt (cell (kCred ρ) (up ρ c)) (2 * s + 3) 1 := by
  unfold oCred; rw [Finset.sum_eq_sum_Ico_succ_bot h, add_comm]
theorem oAx_step (c : Dev nD) (s : ℕ) (h : s < 16) : oAx c s = oAx c (s + 1) + tallyAt (cell (kAxr (kk s)) (rt c s)) 40 Nax := by
  unfold oAx; rw [Finset.sum_eq_sum_Ico_succ_bot h, add_comm]
theorem oRing_end (ρ : Fin 2) (c : Dev nD) : oRing ρ c 15 = 0 := by unfold oRing; rw [Finset.Ico_self, Finset.sum_empty]
theorem oCred_end (ρ : Fin 2) (c : Dev nD) : oCred ρ c 14 = 0 := by unfold oCred; rw [Finset.Ico_self, Finset.sum_empty]
theorem oAx_end (c : Dev nD) : oAx c 16 = 0 := by unfold oAx; rw [Finset.Ico_self, Finset.sum_empty]

end Cert.Sched
-- ==== Proof.Cells.lean ====
module

public import proofs.«01_k».proof.Proof.Sched

@[expose] public section

noncomputable section

/-! One wait, one signal, one copy of the body, each at the schedule. -/

namespace Cert.Cells

open Cert.KernelIdeal Cert.KernelIdeal.Gen Cert.Steps Cert.Contents Cert.Ring Cert.Sched
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : XT F) (W : WT F)

/-! ## The records every device may consult -/

def barEmb : Dev nD ↪ GSem nD τ sig := ⟨fun c => barC c, fun _ _ h => congrArg (fun g : GSem nD τ sig => g.1.1) h⟩
def ownEmb : Dev nD × K ↪ GSem nD τ sig :=
  ⟨fun ck => cell ck.2 ck.1, fun _ _ h => Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

theorem bar_mem (c : Dev nD) : barC c ∈ (barCells ∪ ownCells : Finset (GSem nD τ sig)) :=
  Finset.mem_union_left _ (Finset.mem_map_of_mem barEmb (Finset.mem_univ c))
theorem own_mem (k : K) (c : Dev nD) : cell k c ∈ (barCells ∪ ownCells : Finset (GSem nD τ sig)) :=
  Finset.mem_union_right _ (Finset.mem_map_of_mem ownEmb (Finset.mem_univ (c, k)))

/-- The levels of every cell. -/
def levs (F : FTy → Type) : sProp (MT nD τ sig ℕ (Elt F) ℕ UU ℕ) := levAts L lv
instance levs_persistent : BI.Persistent (levs F) := by unfold levs; infer_instance
theorem levs_mayWait (c : Dev nD) (sm : SemLoc sig) (i : ℕ) (hi : i < 64) {O : CellTallies nD τ sig ℕ} (h : Hi i O) :
    levs F ⊢ MayWait (c : Thread nD τ) sm i O := mayWait c sm i hi h

/-- All the invariants under one map of names, round 0 of every barrier reached, and the levels. -/
def ctx (κ : GSem nD τ sig → ℕ) : sProp 𝕄 :=
  iprop((bigSep (barCells ∪ ownCells) fun g => cellInv ER (Rd X W) (κ g) g) ∗ (bigSep barCells fun g => reached ER g 0) ∗ levs F)

instance ctx_persistent (κ : GSem nD τ sig → ℕ) : BI.Persistent (ctx X W κ) := by unfold ctx; infer_instance

variable (κ : GSem nD τ sig → ℕ)

theorem ctx_inv {g : GSem nD τ sig} (hg : g ∈ (barCells ∪ ownCells : Finset (GSem nD τ sig))) : ctx X W κ ⊢ cellInv ER (Rd X W) (κ g) g := by
  unfold ctx
  iintro ⟨H, -, -⟩
  iapply (show (bigSep (barCells ∪ ownCells) fun g => (cellInv ER (Rd X W) (κ g) g : sProp 𝕄)) ⊢ cellInv ER (Rd X W) (κ g) g from bigSep_elim hg)
  iexact H
theorem ctx_cell (k : K) (c : Dev nD) : ctx X W κ ⊢ cellInv ER (Rd X W) (κ (cell k c)) (cell k c) := ctx_inv X W κ (own_mem k c)
theorem ctx_bar (c : Dev nD) : ctx X W κ ⊢ cellInv ER (Rd X W) (κ (barC c)) (barC c) := ctx_inv X W κ (bar_mem c)
theorem ctx_reached (c : Dev nD) : ctx X W κ ⊢ reached ER (barC c) 0 := by
  unfold ctx
  iintro ⟨-, H, -⟩
  iapply (show (bigSep barCells fun g => (reached ER g 0 : sProp 𝕄)) ⊢ reached ER (barC c) 0 from bigSep_elim (Finset.mem_map_of_mem barEmb (Finset.mem_univ c)))
  iexact H
theorem ctx_lev : ctx X W κ ⊢ levs F := by
  unfold ctx
  iintro ⟨-, -, H⟩
  iexact H

theorem ctx_mayWait (c : Dev nD) (sm : SemLoc sig) (i : ℕ) (hi : i < 64) {O : CellTallies nD τ sig ℕ} (h : Hi i O) :
    ctx X W κ ⊢ MayWait (c : Thread nD τ) sm i O := by
  unfold ctx
  iintro ⟨-, -, H⟩
  iapply (levs_mayWait c sm i hi h)
  iexact H

/-- What a device owes, its waits so far not named. -/
def owesE (c : Dev nD) (O : CellTallies nD τ sig ℕ) : sProp 𝕄 := iprop(∃ Wt, owes (c : Thread nD τ) O Wt)

variable (c : Dev nD) {β : Type}

/-- A wait for a whole round of one of the body's own semaphores. -/
theorem wp_waitCell (k : K) (r : ℕ) (h : act k r) (i : ℕ) (hi : i < 64) {O : CellTallies nD τ sig ℕ} (hO : Hi i O)
    {w : TpuEff nD τ sig (Elt F) Λ₀ .tc PUnit}
    (hw : ∀ Kt : PUnit → sProp 𝕄, wpE' (defs₀ (F := F)) 𝒱₀ (c : Thread nD τ) none .empty Set.univ w Kt = waitSpec (c : Thread nD τ) Set.univ (osem k) (amt k) Kt)
    {kont : PUnit → Prog (TpuEff nD τ sig (Elt F) Λ₀ .tc) β} {Q : β → sProp 𝕄} :
    iprop(ctx X W κ ∗ atPos ER (cell k c) r ∅ 0 ∗ cred (tallyAt (cell k c) i (amt k)) ∗ owesE c O)
      ⊢ iprop(((owesE c O ∗ atPos ER (cell k c) (r + 1) ∅ 0 ∗ reached ER (cell k c) (r + 1) ∗ pay X W k c r)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  unfold owesE
  iintro ⟨#Hc, Hat, Hcr, ⟨%Wt, HO⟩⟩ Hk
  iapply (Rounds.wp_wait_rest_token (Γ := .empty) 𝒱₀ ER (Rd X W) (c : Thread nD τ) none (κ := κ (cell k c)) hw (Set.mem_univ _) i (O := O) (W := Wt) (R := r) (m := 0) (T := ∅)
      ((Nat.zero_add (amt k)).trans (expect_cell X W c k r h).symm)) $$ [Hcr HO Hat]
  · isplitr; · iapply (ctx_cell X W κ k c); iexact Hc
    isplitl [Hcr]; · iexact Hcr
    isplitl [HO]; · iexact HO
    isplitr; · iapply (ctx_mayWait X W κ c (osem k) i hi hO); iexact Hc
    iexact Hat
  iintro ⟨HO, Hat, Hr, Hp⟩
  iapply Hk
  isplitl [HO]; · iexists _; iexact HO
  isplitl [Hat]; · iexact Hat
  isplitl [Hr]; · iexact Hr
  iapply (Entails.of_eq (rest_cell X W c k r h)); iexact Hp

/-- The wait on the own barrier: both neighbours' slots. -/
theorem wp_waitBar {O : CellTallies nD τ sig ℕ} (hO : Hi 1 O) {kont : PUnit → Prog (TpuEff nD τ sig (Elt F) Λ₀ .tc) β} {Q : β → sProp 𝕄} :
    iprop(ctx X W κ ∗ atPos ER (barC c) 0 ∅ 0 ∗ cred (tallyAt (barC c) 1 2) ∗ owesE c O)
      ⊢ iprop(((owesE c O ∗ atPos ER (barC c) 1 ∅ 0 ∗ barPay 0 c ∗ barPay 1 c)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 2) kont) Q) := by
  unfold owesE
  iintro ⟨#Hc, Hat, Hcr, ⟨%Wt, HO⟩⟩ Hk
  iapply (Rounds.wp_wait_rest_token (Γ := .empty) 𝒱₀ ER (Rd X W) (c : Thread nD τ) none (κ := κ (barC c)) (wpE_semWait_eq 𝒱₀ (c : Thread nD τ) none Set.univ) (Set.mem_univ _) 1 (O := O) (W := Wt) (R := 0) (m := 0) (T := ∅)
      ((Nat.zero_add 2).trans (expect_bar X W c).symm)) $$ [Hcr HO Hat]
  · isplitr; · iapply (ctx_bar X W κ c); iexact Hc
    isplitl [Hcr]; · iexact Hcr
    isplitl [HO]; · iexact HO
    isplitr; · iapply (ctx_mayWait X W κ c (.reg barS) 1 (by decide) hO); iexact Hc
    iexact Hat
  iintro ⟨HO, Hat, -, Hp⟩
  iapply Hk
  isplitl [HO]; · iexists _; iexact HO
  isplitl [Hat]; · iexact Hat
  iapply (Entails.of_eq (rest_bar X W c)); iexact Hp

/-- A signal to a neighbour's barrier. -/
theorem wp_signalBar (d : Dev nD) (ρ : Fin 2) {O₀ : CellTallies nD τ sig ℕ} (O : CellTallies nD τ sig ℕ) (hO : O₀ = O + tallyAt (barC d) 1 1)
    {kont : PUnit → Prog (TpuEff nD τ sig (Elt F) Λ₀ .tc) β} {Q : β → sProp 𝕄} :
    iprop(ctx X W κ ∗ owesE c O₀ ∗ dutyTok ER (barC d) 0 ρ ∗ barPay ρ d)
      ⊢ iprop((owesE c O -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc d) barS 1) kont) Q) := by
  unfold owesE
  iintro ⟨#Hc, ⟨%Wt, HO⟩, Ht, Hp⟩ Hk
  iapply (Rounds.wp_signal (Γ := .empty) 𝒱₀ ER (Rd X W) (c : Thread nD τ) none (dst := (d : Thread nD τ)) (sem := barS) (r := 0) (d := ρ) (κ := κ (barC d))
      (by rw [duties_bar]; exact Finset.mem_univ _) (amount_bar X W d 0 ρ) 1 O hO (W := Wt)) $$ [HO Ht Hp]
  · isplitr; · iapply (ctx_bar X W κ d); iexact Hc
    isplitl [HO]; · iexact HO
    isplitl [Ht]; · iexact Ht
    isplitl [Hp]; · rw [payload_bar]; iexact Hp
    iapply (ctx_reached X W κ d); iexact Hc
  iintro HO
  iapply Hk
  iexists _; iexact HO

/-- A credit to the neighbour that copies to this device. -/
theorem wp_grant (ρ : Fin 2) (d : Dev nD) (s : ℕ) (hs : s < 14) {O₀ : CellTallies nD τ sig ℕ} (O : CellTallies nD τ sig ℕ)
    (hO : O₀ = O + tallyAt (cell (kCred ρ) d) (2 * s + 3) 1)
    {kont : PUnit → Prog (TpuEff nD τ sig (Elt F) Λ₀ .tc) β} {Q : β → sProp 𝕄} :
    iprop(ctx X W κ ∗ owesE c O₀ ∗ dutyTok ER (cell (kCred ρ) d) s 0 ∗ reached ER (cell (kCred ρ) d) s ∗ credPay ρ d s)
      ⊢ iprop((owesE c O -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc d) (Cr ρ) 1) kont) Q) := by
  unfold owesE
  iintro ⟨#Hc, ⟨%Wt, HO⟩, Ht, Hr, Hp⟩ Hk
  iapply (Rounds.wp_signal (Γ := .empty) 𝒱₀ ER (Rd X W) (c : Thread nD τ) none (dst := (d : Thread nD τ)) (sem := Cr ρ) (r := s) (d := 0) (κ := κ (cell (kCred ρ) d))
      (mem_duties X W d (kCred ρ) s hs) (amount_cell X W d (kCred ρ) s 0) (2 * s + 3) O hO (W := Wt)) $$ [HO Ht Hr Hp]
  · isplitr; · iapply (ctx_cell X W κ (kCred ρ) d); iexact Hc
    isplitl [HO]; · iexact HO
    isplitl [Ht]; · iexact Ht
    isplitl [Hp]; · iapply (show credPay ρ d s ⊢ (Rd X W).payload ((d : Thread nD τ), SemLoc.reg (Cr ρ)) s 0 from Entails.of_eq (payload_cell X W d (kCred ρ) s 0).symm); iexact Hp
    iexact Hr
  iintro HO
  iapply Hk
  iexists _; iexact HO

/-- The amount of a copy of a slot, of a copy of a row. -/
theorem amount_slot (ρ q : Fin 2) (sm : DmaSem sig) : (slotM (M ρ) q).view.amount (.dma sm) = N := by
  match ρ with
  | 0 => rfl
  | 1 => rfl
theorem credit_slot (ρ q : Fin 2) : (slotM (M ρ) q).view.dmaCredit = N := by
  match ρ with
  | 0 => rfl
  | 1 => rfl
theorem amount_row (r : Fin 16) (sm : DmaSem sig) : (rowM r).view.amount (.dma sm) = Nax := rfl
theorem credit_row (r : Fin 16) : (rowM r).view.dmaCredit = Nax := rfl

theorem two_par (s : ℕ) : 2 * (s / 2) + (par s).val = s := by simp only [par]; omega
theorem two_par_succ (s : ℕ) : 2 * (s / 2) + 1 - (par (s + 1)).val = s := by simp only [par]; omega

theorem pay_send (ρ : Fin 2) (s : ℕ) : pay X W (kSend ρ (par s)) c (s / 2) = slotAt (M ρ) (par s) c (acc X W ρ s c) := by
  show sendPay X W ρ (par s) c (s / 2) = _
  unfold sendPay; rw [two_par]
theorem pay_recv (ρ : Fin 2) (s : ℕ) : pay X W (kRecv ρ (par (s + 1))) c (s / 2) = landPay X W ρ (par (s + 1)) c s := by
  show landPay X W ρ (par (s + 1)) c (2 * (s / 2) + 1 - (par (s + 1)).val) = _
  rw [two_par_succ]

/-- The copy of step `s` of a ring. -/
theorem wp_sendSlot (ρ : Fin 2) (s : ℕ) (hs : s < 15) {O₀ : CellTallies nD τ sig ℕ} (O : CellTallies nD τ sig ℕ)
    (hO : O₀ = O + tallyAt (cell (kRecv ρ (par (s + 1))) (dn ρ c)) (2 * s + 2) N) {Q : PUnit → sProp 𝕄} :
    iprop(ctx X W κ ∗ owesE c O₀ ∗ slotAt (M ρ) (par s) c (acc X W ρ s c) ∗ slotAny ρ (par (s + 1)) (dn ρ c)
        ∗ dutyTok ER (cell (kSend ρ (par s)) c) (s / 2) 0 ∗ reached ER (cell (kSend ρ (par s)) c) (s / 2)
        ∗ dutyTok ER (cell (kRecv ρ (par (s + 1))) (dn ρ c)) (s / 2) 0 ∗ reached ER (cell (kRecv ρ (par (s + 1))) (dn ρ c)) (s / 2)
        ∗ reached ER (cell (kCred ρ) c) s ∗ travOn ρ c s)
      ⊢ iprop(((owesE c O ∗ cred (tallyAt (cell (kSend ρ (par s)) c) 0 N)) -∗ Q ⟨⟩)
          -∗ wp frame (wpE (defs₀ (F := F)) 𝒱₀ (c : Thread nD τ) none) Set.univ (sendSlot (M ρ) (A ρ) (B ρ) (par s) (par (s + 1)) (dn ρ c)) Q) := by
  unfold owesE slotAny slotAt sendSlot
  iintro ⟨#Hc, ⟨%Wt, HO⟩, Hs, ⟨%v, Hd⟩, Ht1, Hr1, Ht2, Hr2, Hrc, Htr⟩ Hk
  have hpay₂ : iprop(((slotM (M ρ) (par (s + 1))).view.loc (dn ρ c : Thread nD τ) ↦[(slotM (M ρ) (par (s + 1))).view.set]{fullShare}
        ((slotM (M ρ) (par (s + 1))).view.write (Elt F) ((slotM (M ρ) (par (s + 1))).view.rep (halves v))
          ((slotM (M ρ) (par s)).view.read (Elt F) ((slotM (M ρ) (par s)).view.rep (halves (acc X W ρ s c)))) Finset.univ))
      ∗ (reached ER (cell (kCred ρ) c) s ∗ travOn ρ c s)) ⊢ (Rd X W).payload (cell (kRecv ρ (par (s + 1))) (dn ρ c)) (s / 2) 0 := by
    rw [payload_cell, pay_recv]
    unfold landPay
    rw [up_dn]
    refine sep_mono_left (slotAt_of (M ρ) (par (s + 1)) (dn ρ c) _ _ ?_)
    rw [View.read_write_univ, View.read_rep]
  iapply (Rounds.wp_send_pointsTo_with (Γ := .empty) 𝒱₀ ER (Rd X W) (c : Thread nD τ) none (c' := (dn ρ c : Thread nD τ)) (src := slotM (M ρ) (par s)) (dst := slotM (M ρ) (par (s + 1)))
      (sS := osem (kSend ρ (par s))) (sem := osem (kRecv ρ (par (s + 1)))) (q := fullShare) (fs := (slotM (M ρ) (par s)).view.rep (halves (acc X W ρ s c)))
      (fd := (slotM (M ρ) (par (s + 1))).view.rep (halves v)) (F := iprop(reached ER (cell (kCred ρ) c) s ∗ travOn ρ c s))
      (κ₁ := κ (cell (kSend ρ (par s)) c)) (κ₂ := κ (cell (kRecv ρ (par (s + 1))) (dn ρ c)))
      (r₁ := s / 2) (r₂ := s / 2) (d₁ := 0) (d₂ := 0)
      (mem_duties X W c _ _ (by show 2 * (s / 2) + (par s).val < 15; rw [two_par]; exact hs))
      (mem_duties X W (dn ρ c) _ _ (by show 2 * (s / 2) + 1 - (par (s + 1)).val < 15; rw [two_par_succ]; exact hs))
      (2 * s + 2) 0 N (amount_slot ρ _ _) (amount_cell X W c _ _ 0) (amount_cell X W (dn ρ c) _ _ 0) O hO (W := Wt)
      (by rw [payload_cell, pay_send]; exact BI.Entails.refl _) hpay₂) $$ [HO Hs Hd Ht1 Hr1 Ht2 Hr2 Hrc Htr]
  · isplitr; · iapply (ctx_cell X W κ (kSend ρ (par s)) c); iexact Hc
    isplitr; · iapply (ctx_cell X W κ (kRecv ρ (par (s + 1))) (dn ρ c)); iexact Hc
    isplitl [Hs]; · iexact Hs
    isplitl [Hd Hrc Htr]
    · isplitl [Hd]; · iexact Hd
      isplitl [Hrc] <;> iassumption
    isplitl [HO]; · iexact HO
    isplitl [Ht1]; · iexact Ht1
    isplitl [Hr1]; · iexact Hr1
    isplitl [Ht2]; · iexact Ht2
    iexact Hr2
  iintro ⟨Hcr, HO⟩
  rw [wp_ret]
  imodintro
  iapply Hk
  isplitl [HO]; · iexists _; iexact HO
  iexact Hcr

/-- The wait for the own copy of step `s`. -/
theorem wp_waitSent (ρ : Fin 2) (s : ℕ) (hs : s < 15) {O : CellTallies nD τ sig ℕ} (hO : Hi 0 O) {Q : PUnit → sProp 𝕄} :
    iprop(ctx X W κ ∗ atPos ER (cell (kSend ρ (par s)) c) (s / 2) ∅ 0 ∗ cred (tallyAt (cell (kSend ρ (par s)) c) 0 N) ∗ owesE c O)
      ⊢ iprop(((owesE c O ∗ atPos ER (cell (kSend ρ (par s)) c) (s / 2 + 1) ∅ 0 ∗ reached ER (cell (kSend ρ (par s)) c) (s / 2 + 1)
            ∗ slotAt (M ρ) (par s) c (acc X W ρ s c)) -∗ Q ⟨⟩)
          -∗ wp frame (wpE (defs₀ (F := F)) 𝒱₀ (c : Thread nD τ) none) Set.univ (waitSent (M ρ) (A ρ) (par s) (par (s + 1))) Q) := by
  unfold waitSent
  iintro H Hk
  iapply (wp_waitCell X W κ c (kSend ρ (par s)) (s / 2) (by show 2 * (s / 2) + (par s).val < 15; rw [two_par]; exact hs) 0 (by decide) hO
    (fun Kt => by rw [show amt (kSend ρ (par s)) = (slotM (M ρ) (par s)).view.dmaCredit from (credit_slot ρ _).symm]; exact wpE_waitDma2_eq 𝒱₀ (c : Thread nD τ) none Set.univ Kt)) $$ [H]
  · iexact H
  rw [pay_send]
  iintro H
  rw [wp_ret]
  imodintro
  iapply Hk; iexact H

/-- The wait for the neighbour's copy of step `s`. -/
theorem wp_waitLanded (ρ : Fin 2) (s : ℕ) (hs : s < 15) {O : CellTallies nD τ sig ℕ} (hO : Hi (2 * s + 2) O) {Q : PUnit → sProp 𝕄} :
    iprop(ctx X W κ ∗ atPos ER (cell (kRecv ρ (par (s + 1))) c) (s / 2) ∅ 0 ∗ cred (tallyAt (cell (kRecv ρ (par (s + 1))) c) (2 * s + 2) N) ∗ owesE c O)
      ⊢ iprop(((owesE c O ∗ atPos ER (cell (kRecv ρ (par (s + 1))) c) (s / 2 + 1) ∅ 0 ∗ reached ER (cell (kRecv ρ (par (s + 1))) c) (s / 2 + 1)
            ∗ landPay X W ρ (par (s + 1)) c s) -∗ Q ⟨⟩)
          -∗ wp frame (wpE (defs₀ (F := F)) 𝒱₀ (c : Thread nD τ) none) Set.univ (waitLanded (M ρ) (B ρ) (par s) (par (s + 1))) Q) := by
  unfold waitLanded
  iintro H Hk
  iapply (wp_waitCell X W κ c (kRecv ρ (par (s + 1))) (s / 2) (by show 2 * (s / 2) + 1 - (par (s + 1)).val < 15; rw [two_par_succ]; exact hs) (2 * s + 2) (by omega) hO
    (fun Kt => by rw [show amt (kRecv ρ (par (s + 1))) = (slotM (M ρ) (par (s + 1))).view.dmaCredit from (credit_slot ρ _).symm]; exact wpE_waitDma2_eq 𝒱₀ (c : Thread nD τ) none Set.univ Kt)) $$ [H]
  · iexact H
  rw [pay_recv]
  iintro H
  rw [wp_ret]
  imodintro
  iapply Hk; iexact H

/-- The wait for the credit before step `s + 1`. -/
theorem wp_waitCredit (ρ : Fin 2) (s : ℕ) (hs : s < 14) {O : CellTallies nD τ sig ℕ} (hO : Hi (2 * s + 3) O)
    {kont : PUnit → Prog (TpuEff nD τ sig (Elt F) Λ₀ .tc) β} {Q : β → sProp 𝕄} :
    iprop(ctx X W κ ∗ atPos ER (cell (kCred ρ) c) s ∅ 0 ∗ cred (tallyAt (cell (kCred ρ) c) (2 * s + 3) 1) ∗ owesE c O)
      ⊢ iprop(((owesE c O ∗ atPos ER (cell (kCred ρ) c) (s + 1) ∅ 0 ∗ reached ER (cell (kCred ρ) c) (s + 1) ∗ credPay ρ c s)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait (Cr ρ) 1) kont) Q) :=
  wp_waitCell X W κ c (kCred ρ) s hs (2 * s + 3) (by omega) hO (wpE_semWait_eq 𝒱₀ (c : Thread nD τ) none Set.univ)

/-- A cell none of whose rounds is left goes back to a counter at zero. -/
theorem close_cell (k : K) (R : ℕ) (h : ∀ r, R ≤ r → ¬ act k r) :
    iprop(ctx X W κ ∗ atPos ER (cell k c) R ∅ 0) ⊢ (|={Set.univ}=> semVal (cell k c) 0 : sProp 𝕄) :=
  (sep_mono_left (ctx_cell X W κ k c)).trans
    (Rounds.cell_close ER (Rd X W) (Set.mem_univ _) id fun r hr => duties_none X W c k r (h r hr))
theorem close_bar : iprop(ctx X W κ ∗ atPos ER (barC c) 1 ∅ 0) ⊢ (|={Set.univ}=> semVal (barC c) 0 : sProp 𝕄) :=
  (sep_mono_left (ctx_bar X W κ c)).trans (Rounds.cell_close ER (Rd X W) (Set.mem_univ _) id fun r hr => duties_bar_later X W c r hr)

end Cert.Cells
-- ==== Proof.Pieces.lean ====
module

public import proofs.«01_k».proof.Proof.Sched

@[expose] public section

noncomputable section

/-! The pieces of the body that touch one device's buffers alone: products, folds, the quantiser. -/

namespace Cert.Pieces

open Cert.KernelIdeal Cert.KernelIdeal.Gen Cert.Steps Cert.Contents Cert.Ring Cert.Sched
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : XT F) (W : WT F)

/-- The precondition of a piece of the body at device `c`. -/
abbrev wpc {β : Type} (c : Dev nD) (p : Prog (TpuEff nD τ sig (Elt F) Λ₀ .tc) β) (Q : β → sProp 𝕄) : sProp 𝕄 :=
  wp frame (wpE (defs₀ (F := F)) 𝒱₀ (c : Thread nD τ) none) Set.univ p Q

theorem M_zero : Ring.M 0 = lM := rfl
theorem M_one : Ring.M 1 = rM := rfl

/-- The staged inputs of device `c`, and its output block with the column blocks `v`. -/
def stg (c : Dev nD) (v : Fin 4 → FVec F S256x2048 .f32) : sProp 𝕄 :=
  iprop(xAt c fullShare (X c) ∗ wAt c fullShare (W c) ∗ outAt c v)

variable (c : Dev nD)

theorem wp_mmBlk (o : Fin 2 → Nat) (ho : InX o) (b : Fin 4) (v : Fin 4 → FVec F S256x2048 .f32) (Q : PUnit → sProp 𝕄) :
    stg X W c v ⊢ iprop((stg X W c (Function.update v b (k0_pay5 (rowsOf (X c) o ho) (colsOf (W c) b))) -∗ Q ⟨⟩) -∗ wpc c (mmBlk o ho b) Q) := by
  unfold stg wpc mmBlk
  simp only [Prog.lift, Prog.bind_op, Prog.bind_ret]
  iintro ⟨Hx, Hw, Ho⟩ Hk
  iapply (wp_loadX c) $$ Hx
  iintro Hx
  iapply (wp_loadW c) $$ Hw
  iintro Hw
  iapply (wp_loadOut c) $$ Ho
  iintro Ho
  iapply (wp_storeOut c) $$ Ho
  iintro Ho
  rw [wp_ret]
  imodintro
  iapply Hk
  isplitl [Hx]; · iexact Hx
  isplitl [Hw]; · iexact Hw
  iexact Ho

/-- The four column blocks of the `k`-th summands. -/
def prods (k : Fin 16) : Fin 4 → FVec F S256x2048 .f32 := fun b => blk X W ⟨b.val / 2, by omega⟩ c k ⟨b.val % 2, by omega⟩
theorem prods_cb (k : Fin 16) (ρ h : Fin 2) : prods X W c k (cb ρ h) = blk X W ρ c k h := by
  match ρ, h with
  | 0, 0 => rfl
  | 0, 1 => rfl
  | 1, 0 => rfl
  | 1, 1 => rfl

theorem update_all {α : Type} (v w : Fin 4 → α) (a b : Fin 4 → α) (h : ∀ i, a i = w i) :
    Function.update (Function.update (Function.update (Function.update v 0 (a 0)) 2 (a 2)) 1 (a 1)) 3 (a 3) = w := by
  funext i
  match i with
  | 0 => exact h 0
  | 1 => exact h 1
  | 2 => exact h 2
  | 3 => exact h 3

theorem wp_mm (k : Fin 16) (v : Fin 4 → FVec F S256x2048 .f32) (Q : PUnit → sProp 𝕄) :
    stg X W c v ⊢ iprop((stg X W c (prods X W c k) -∗ Q ⟨⟩) -∗ wpc c (mm c k) Q) := by
  unfold mm
  simp only [wpc, wp_bind]
  iintro H Hk
  iapply (wp_mmBlk X W c) $$ H
  iintro H
  iapply (wp_mmBlk X W c) $$ H
  iintro H
  iapply (wp_mmBlk X W c) $$ H
  iintro H
  iapply (wp_mmBlk X W c) $$ H
  iintro H
  iapply Hk
  rw [← update_all v (prods X W c k) (prods X W c k) v fun _ => rfl]
  iexact H

/-- The payloads of the stores to a slot, without their unit axis. -/
theorem flat_pay1 (x : Vec F S256x768 .bf16) (w : Vec F S768x2048 .bf16) : flat (k0_pay1 x w) = k0_pay5 x w := by
  unfold k0_pay1 k0_pay5
  exact flat_lift _
theorem flat_pay14 (a b : FVec F S256x2048 .f32) : flat (k0_pay14 (lift a) b) = addf a b := by
  unfold k0_pay14
  refine (flat_lift _).trans ?_
  exact congrArg₂ addf (flat_lift a) (shapeCast_self b _)

theorem wp_seed (ρ h : Fin 2) (b : Fin 4) (o : Fin 2 → Nat) (ho : InX o) (v : Fin 4 → FVec F S256x2048 .f32) (u : Fin 2 → FVec F S256x2048 .f32) (Q : PUnit → sProp 𝕄) :
    iprop(stg X W c v ∗ slotAt (M ρ) 0 c u)
      ⊢ iprop((iprop(stg X W c v ∗ slotAt (M ρ) 0 c (Function.update u h (k0_pay5 (rowsOf (X c) o ho) (colsOf (W c) b)))) -∗ Q ⟨⟩) -∗ wpc c (seed (M ρ) o ho h b) Q) := by
  unfold stg wpc seed
  simp only [Prog.lift, Prog.bind_op, Prog.bind_ret]
  iintro ⟨⟨Hx, Hw, Ho⟩, Hs⟩ Hk
  iapply (wp_loadX c) $$ Hx
  iintro Hx
  iapply (wp_loadW c) $$ Hw
  iintro Hw
  iapply (wp_loadHalf c) $$ Hs
  iintro Hs
  iapply (wp_storeHalf c) $$ Hs
  iintro Hs
  rw [wp_ret]
  imodintro
  iapply Hk
  rw [flat_pay1]
  isplitl [Hx Hw Ho]
  · isplitl [Hx]; · iexact Hx
    isplitl [Hw]; · iexact Hw
    iexact Ho
  iexact Hs

theorem update_both {α : Type} (v w : Fin 2 → α) : Function.update (Function.update v 0 (w 0)) 1 (w 1) = w := by
  funext i
  match i with
  | 0 => rfl
  | 1 => rfl

theorem wp_seeds (v : Fin 4 → FVec F S256x2048 .f32) (u u' : Fin 2 → FVec F S256x2048 .f32) (Q : PUnit → sProp 𝕄) :
    iprop(stg X W c v ∗ slotAt (M 0) 0 c u ∗ slotAt (M 1) 0 c u')
      ⊢ iprop((iprop(stg X W c v ∗ slotAt (M 0) 0 c (acc X W 0 0 c) ∗ slotAt (M 1) 0 c (acc X W 1 0 c)) -∗ Q ⟨⟩) -∗ wpc c (seeds c) Q) := by
  unfold seeds
  simp only [wpc, wp_bind, ← M_zero, ← M_one]
  iintro ⟨H, H0, H1⟩ Hk
  iapply (wp_seed X W c 0 0 0) $$ [H H0]
  · isplitl [H] <;> iassumption
  iintro ⟨H, H0⟩
  iapply (wp_seed X W c 1 0 2) $$ [H H1]
  · isplitl [H] <;> iassumption
  iintro ⟨H, H1⟩
  iapply (wp_seed X W c 0 1 1) $$ [H H0]
  · isplitl [H] <;> iassumption
  iintro ⟨H, H0⟩
  iapply (wp_seed X W c 1 1 3) $$ [H H1]
  · isplitl [H] <;> iassumption
  iintro ⟨H, H1⟩
  iapply Hk
  isplitl [H]; · iexact H
  rw [← update_both u (acc X W 0 0 c), ← update_both u' (acc X W 1 0 c)]
  isplitl [H0]; · iexact H0
  iexact H1

/-! ## Folds -/

theorem wp_readSlot (ρ q h : Fin 2) (b : Fin 4) (v : Fin 4 → FVec F S256x2048 .f32) (u : Fin 2 → FVec F S256x2048 .f32) (Q : Vec F S1x256x2048 .f32 × Vec F S256x2048 .f32 → sProp 𝕄) :
    iprop(outAt c v ∗ slotAt (M ρ) q c u) ⊢ iprop((iprop(outAt c v ∗ slotAt (M ρ) q c u) -∗ Q (lift (u h), v b)) -∗ wpc c (readSlot (M ρ) q h b) Q) := by
  unfold wpc readSlot
  simp only [Prog.lift, Prog.bind_op, Prog.bind_ret]
  iintro ⟨Ho, Hs⟩ Hk
  iapply (wp_loadHalf c) $$ Hs
  iintro Hs
  iapply (wp_loadOut c) $$ Ho
  iintro Ho
  rw [show (Pure.pure (lift (u h), v b) : Prog (TpuEff nD τ sig (Elt F) Λ₀ .tc) _) = Prog.ret (lift (u h), v b) from rfl, wp_ret]
  imodintro
  iapply Hk
  isplitl [Ho] <;> iassumption

theorem wp_storeSlot (ρ q h : Fin 2) (w : FVec F S1x256x2048 .f32) (u : Fin 2 → FVec F S256x2048 .f32) (Q : PUnit → sProp 𝕄) :
    slotAt (M ρ) q c u ⊢ iprop((slotAt (M ρ) q c (Function.update u h (flat w)) -∗ Q ⟨⟩) -∗ wpc c (storeSlot (M ρ) q h w) Q) := by
  unfold wpc storeSlot
  simp only [Prog.lift, Prog.bind_op, Prog.bind_ret]
  iintro Hs Hk
  iapply (wp_loadHalf c) $$ Hs
  iintro Hs
  iapply (wp_storeHalf c) $$ Hs
  iintro Hs
  rw [wp_ret]
  imodintro
  iapply Hk; iexact Hs

theorem wp_storeOutBlk (b : Fin 4) (w : FVec F S256x2048 .f32) (v : Fin 4 → FVec F S256x2048 .f32) (Q : PUnit → sProp 𝕄) :
    outAt c v ⊢ iprop((outAt c (Function.update v b w) -∗ Q ⟨⟩) -∗ wpc c (storeOut b w) Q) := by
  unfold wpc storeOut
  simp only [Prog.lift, Prog.bind_op, Prog.bind_ret]
  iintro Hs Hk
  iapply (wp_loadOut c) $$ Hs
  iintro Hs
  iapply (wp_storeOut c) $$ Hs
  iintro Hs
  rw [wp_ret]
  imodintro
  iapply Hk; iexact Hs

theorem wp_foldHalf (q h : Fin 2) (b b' : Fin 4) (v : Fin 4 → FVec F S256x2048 .f32) (u u' : Fin 2 → FVec F S256x2048 .f32) (Q : PUnit → sProp 𝕄) :
    iprop(outAt c v ∗ slotAt (M 0) q c u ∗ slotAt (M 1) q c u')
      ⊢ iprop((iprop(outAt c v ∗ slotAt (M 0) q c (Function.update u h (addf (u h) (v b))) ∗ slotAt (M 1) q c (Function.update u' h (addf (u' h) (v b')))) -∗ Q ⟨⟩)
        -∗ wpc c (foldHalf q h b b') Q) := by
  unfold foldHalf
  simp only [wpc, wp_bind, ← M_zero, ← M_one]
  iintro ⟨Ho, H0, H1⟩ Hk
  iapply (wp_readSlot c 0 q h b) $$ [Ho H0]
  · isplitl [Ho] <;> iassumption
  iintro ⟨Ho, H0⟩
  iapply (wp_readSlot c 1 q h b') $$ [Ho H1]
  · isplitl [Ho] <;> iassumption
  iintro ⟨Ho, H1⟩
  iapply (wp_storeSlot c 0 q h) $$ H0
  iintro H0
  iapply (wp_storeSlot c 1 q h) $$ H1
  iintro H1
  iapply Hk
  rw [flat_pay14, flat_pay14]
  isplitl [Ho]; · iexact Ho
  isplitl [H0] <;> iassumption

/-- The fold of step `s`. -/
theorem wp_fold (s : ℕ) (hs : s < 15) (Q : PUnit → sProp 𝕄) :
    iprop(outAt c (prods X W c (kk (s + 1))) ∗ slotAt (M 0) (par (s + 1)) c (acc X W 0 s (up 0 c)) ∗ slotAt (M 1) (par (s + 1)) c (acc X W 1 s (up 1 c)))
      ⊢ iprop((iprop(outAt c (prods X W c (kk (s + 1))) ∗ slotAt (M 0) (par (s + 1)) c (acc X W 0 (s + 1) c) ∗ slotAt (M 1) (par (s + 1)) c (acc X W 1 (s + 1) c)) -∗ Q ⟨⟩)
        -∗ wpc c (foldHalf (par (s + 1)) 0 0 2 >>= fun _ => foldHalf (par (s + 1)) 1 1 3) Q) := by
  simp only [wpc, wp_bind]
  iintro H Hk
  iapply (wp_foldHalf c) $$ H
  iintro H
  iapply (wp_foldHalf c) $$ H
  iintro ⟨Ho, H0, H1⟩
  iapply Hk
  isplitl [Ho]; · iexact Ho
  rw [← update_both (acc X W 0 s (up 0 c)) (acc X W 0 (s + 1) c), ← update_both (acc X W 1 s (up 1 c)) (acc X W 1 (s + 1) c)]
  isplitl [H0]; · iexact H0
  iexact H1

theorem wp_lastHalf (q h : Fin 2) (b b' : Fin 4) (hb : b ≠ b') (v : Fin 4 → FVec F S256x2048 .f32) (u u' : Fin 2 → FVec F S256x2048 .f32) (Q : PUnit → sProp 𝕄) :
    iprop(outAt c v ∗ slotAt (M 0) q c u ∗ slotAt (M 1) q c u')
      ⊢ iprop((iprop(outAt c (Function.update (Function.update v b (k0_pay146 (lift (u h)) (v b))) b' (k0_pay146 (lift (u' h)) (v b'))) ∗ slotAt (M 0) q c u ∗ slotAt (M 1) q c u') -∗ Q ⟨⟩)
        -∗ wpc c (lastHalf q h b b') Q) := by
  unfold lastHalf
  simp only [wpc, wp_bind, ← M_zero, ← M_one]
  iintro ⟨Ho, H0, H1⟩ Hk
  iapply (wp_readSlot c 0 q h b) $$ [Ho H0]
  · isplitl [Ho] <;> iassumption
  iintro ⟨Ho, H0⟩
  iapply (wp_readSlot c 1 q h b') $$ [Ho H1]
  · isplitl [Ho] <;> iassumption
  iintro ⟨Ho, H1⟩
  iapply (wp_storeOutBlk c) $$ Ho
  iintro Ho
  iapply (wp_storeOutBlk c) $$ Ho
  iintro Ho
  iapply Hk
  isplitl [Ho]; · iexact Ho
  isplitl [H0] <;> iassumption

/-- The fold of the last step, into the output. -/
theorem wp_last (q : Fin 2) (Q : PUnit → sProp 𝕄) :
    iprop(outAt c (prods X W c 15) ∗ slotAt (M 0) q c (acc X W 0 14 (up 0 c)) ∗ slotAt (M 1) q c (acc X W 1 14 (up 1 c)))
      ⊢ iprop((iprop(outAt c (res X W c) ∗ slotAt (M 0) q c (acc X W 0 14 (up 0 c)) ∗ slotAt (M 1) q c (acc X W 1 14 (up 1 c))) -∗ Q ⟨⟩)
        -∗ wpc c (lastHalf q 0 0 2 >>= fun _ => lastHalf q 1 1 3) Q) := by
  simp only [wpc, wp_bind]
  iintro H Hk
  iapply (wp_lastHalf c q 0 0 2 (by decide)) $$ H
  iintro H
  iapply (wp_lastHalf c q 1 1 3 (by decide)) $$ H
  iintro ⟨Ho, H0, H1⟩
  iapply Hk
  rw [← update_all (prods X W c 15) (res X W c) (res X W c) (prods X W c 15) fun _ => rfl]
  isplitl [Ho]; · iexact Ho
  isplitl [H0] <;> iassumption

/-! ## The quantiser -/

theorem wp_quantBlk (g : Vec F S16x128 .f32) (b : Fin 4) (v : Fin 4 → FVec F S256x2048 .f32) (Q : PUnit → sProp 𝕄) :
    outAt c v ⊢ iprop((outAt c (Function.update v b (k0_pay155 g (v b))) -∗ Q ⟨⟩) -∗ wpc c (quantBlk g b) Q) := by
  unfold wpc quantBlk
  simp only [Prog.lift, Prog.bind_op, Prog.bind_ret]
  iintro Hs Hk
  iapply (wp_loadOut c) $$ Hs
  iintro Hs
  iapply (wp_storeOutBlk c) $$ Hs
  iintro Hs
  iapply Hk; iexact Hs

theorem update_in_order {α : Type} (v w : Fin 4 → α) :
    Function.update (Function.update (Function.update (Function.update v 0 (w 0)) 1 (w 1)) 2 (w 2)) 3 (w 3) = w := by
  funext i
  match i with
  | 0 => rfl
  | 1 => rfl
  | 2 => rfl
  | 3 => rfl

theorem wp_quant (Q : PUnit → sProp 𝕄) :
    iprop(outAt c (res X W c) ∗ ((aM : Memref sig .tc .vmem S16x128 .f32).view.loc (c : Thread nD τ) ↦{fullShare} rowsBuf (rowVal X W c)))
      ⊢ iprop((iprop(outAt c (fin X W c) ∗ ((aM : Memref sig .tc .vmem S16x128 .f32).view.loc (c : Thread nD τ) ↦{fullShare} rowsBuf (rowVal X W c))) -∗ Q ⟨⟩) -∗ wpc c quant Q) := by
  unfold quant
  simp only [wpc, Prog.lift, Prog.bind_op, Prog.bind_ret]
  iintro ⟨Ho, Ha⟩ Hk
  iapply (wp_load_rect (defs := defs₀ (F := F)) (Name := ℕ) (U := UU) (Lvl := ℕ) (Ix := ℕ) (Γ := .empty) 𝒱₀ (c : Thread nD τ) none Set.univ (m := aM)
    (r := Rect.unit (s := S16x128) ![0, 0] S16x128.size inb_S16x128_S16x128_0_0) (q := fullShare) (f := rowsBuf (rowVal X W c)) (S := Finset.univ) (Finset.subset_univ _)) $$ Ha
  iintro Ha
  rw [show (aM.access (Rect.unit (s := S16x128) ![0, 0] S16x128.size inb_S16x128_S16x128_0_0)).read (Elt F) (rowsBuf (rowVal X W c)) = rowsBuf (rowVal X W c) from
    Memref.read_access_unit_zero (Elt F) cc0_scratch8 (funext fun a => by revert a; decide) _ _]
  simp only [wp_bind]
  iapply (wp_quantBlk c) $$ Ho
  iintro Ho
  iapply (wp_quantBlk c) $$ Ho
  iintro Ho
  iapply (wp_quantBlk c) $$ Ho
  iintro Ho
  iapply (wp_quantBlk c) $$ Ho
  iintro Ho
  iapply Hk
  rw [← update_in_order (res X W c) (fin X W c)]
  isplitl [Ho]; · iexact Ho
  iexact Ha

end Cert.Pieces
-- ==== Proof.Rows.lean ====
module

public import proofs.«01_k».proof.Proof.Cells
public import proofs.«01_k».proof.Proof.Pieces

@[expose] public section

noncomputable section

/-! The exchange of maxima: each device's row 0 copied to one row of every other device. -/

namespace Cert.Rows

open Cert.KernelIdeal Cert.KernelIdeal.Gen Cert.Steps Cert.Contents Cert.Ring Cert.Sched Cert.Cells Cert.Pieces
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : XT F) (W : WT F) (κ : GSem nD τ sig → ℕ) (c : Dev nD)

/-! ## One after the other -/

theorem seqN_succ {n : ℕ} (f : Fin (n + 1) → Prog (TpuEff nD τ sig (Elt F) Λ₀ .tc) PUnit) : seqN f = f 0 >>= fun _ => seqN fun i => f i.succ := by
  unfold seqN; rw [Fin.foldr_succ]; rfl

/-- A state carried through pieces one after the other. -/
theorem wp_seqN {n : ℕ} (f : Fin n → Prog (TpuEff nD τ sig (Elt F) Λ₀ .tc) PUnit) (I : ℕ → sProp 𝕄)
    (h : ∀ (i : Fin n) (Q : PUnit → sProp 𝕄), I i.val ⊢ iprop((I (i.val + 1) -∗ Q ⟨⟩) -∗ wpc c (f i) Q)) (Q : PUnit → sProp 𝕄) :
    I 0 ⊢ iprop((I n -∗ Q ⟨⟩) -∗ wpc c (seqN f) Q) := by
  induction n generalizing I with
  | zero =>
    show I 0 ⊢ iprop((I 0 -∗ Q ⟨⟩) -∗ wpc c (.ret ⟨⟩) Q)
    iintro H Hk
    simp only [wpc, wp_ret]
    imodintro
    iapply Hk; iexact H
  | succ n ih =>
    rw [seqN_succ]
    simp only [wpc, wp_bind]
    iintro H Hk
    iapply (show I 0 ⊢ iprop((I 1 -∗ wpc c (seqN fun i => f i.succ) Q) -∗ wpc c (f 0) fun _ => wpc c (seqN fun i => f i.succ) Q) from
      h 0 fun _ => wpc c (seqN fun i => f i.succ) Q) $$ H
    iintro H
    iapply (ih (fun i => f i.succ) (fun k => I (k + 1)) (fun i Q => h i.succ Q)) $$ H
    iintro H
    iapply Hk; iexact H

theorem univ_succ {n : ℕ} (Φ : Fin (n + 1) → sProp 𝕄) : bigSep Finset.univ Φ = iprop(Φ 0 ∗ bigSep Finset.univ fun i : Fin n => Φ i.succ) := by
  rw [Fin.univ_succ, Finset.cons_eq_insert, bigSep_insert (by simp [Fin.succ_ne_zero]), bigSep_map]; rfl
theorem others_eq (Φ : Fin 16 → sProp 𝕄) : bigSep others Φ = bigSep Finset.univ fun i : Fin 15 => Φ i.succ := by
  have h : (others : Finset (Fin 16)) = Finset.univ.map (Fin.succEmb 15) := by decide
  rw [h, bigSep_map]
  rfl

/-- The same, each piece turning one resource into another, what is owed going along. -/
theorem wp_each {n : ℕ} (f : Fin n → Prog (TpuEff nD τ sig (Elt F) Λ₀ .tc) PUnit) (P P' : Fin n → sProp 𝕄) (O : ℕ → CellTallies nD τ sig ℕ)
    (h : ∀ (i : Fin n) (Q : PUnit → sProp 𝕄), iprop(ctx X W κ ∗ owesE c (O i.val) ∗ P i)
      ⊢ iprop((iprop(owesE c (O (i.val + 1)) ∗ P' i) -∗ Q ⟨⟩) -∗ wpc c (f i) Q)) (Q : PUnit → sProp 𝕄) :
    iprop(ctx X W κ ∗ owesE c (O 0) ∗ bigSep Finset.univ P)
      ⊢ iprop((iprop(owesE c (O n) ∗ bigSep Finset.univ P') -∗ Q ⟨⟩) -∗ wpc c (seqN f) Q) := by
  induction n generalizing O Q with
  | zero =>
    show _ ⊢ iprop(_ -∗ wpc c (.ret ⟨⟩) Q)
    iintro ⟨-, HO, -⟩ Hk
    simp only [wpc, wp_ret]
    imodintro
    iapply Hk
    isplitl [HO]; · iexact HO
    iapply (show iprop(emp) ⊢ bigSep Finset.univ P' from Entails.of_eq rfl)
    iempintro
  | succ n ih =>
    rw [seqN_succ, univ_succ, univ_succ]
    simp only [wpc, wp_bind]
    iintro ⟨#Hc, HO, H0, H⟩ Hk
    iapply (show iprop(ctx X W κ ∗ owesE c (O 0) ∗ P 0) ⊢ iprop((iprop(owesE c (O 1) ∗ P' 0) -∗ wpc c (seqN fun i => f i.succ) Q) -∗ wpc c (f 0) fun _ => wpc c (seqN fun i => f i.succ) Q) from
      h 0 fun _ => wpc c (seqN fun i => f i.succ) Q) $$ [HO H0]
    · isplitr; · iexact Hc
      isplitl [HO] <;> iassumption
    iintro ⟨HO, H0⟩
    iapply (show iprop(ctx X W κ ∗ owesE c (O 1) ∗ bigSep Finset.univ fun i : Fin n => P i.succ)
        ⊢ iprop((iprop(owesE c (O (n + 1)) ∗ bigSep Finset.univ fun i : Fin n => P' i.succ) -∗ Q ⟨⟩) -∗ wpc c (seqN fun i => f i.succ) Q) from
      ih (fun i => f i.succ) (fun i => P i.succ) (fun i => P' i.succ) (fun k => O (k + 1)) (fun i Q => h i.succ Q) Q) $$ [HO H]
    · isplitr; · iexact Hc
      isplitl [HO] <;> iassumption
    iintro ⟨HO, H⟩
    iapply Hk
    isplitl [HO]; · iexact HO
    isplitl [H0] <;> iassumption

/-! ## The own maximum -/

theorem row_subset (r : Fin 16) : ((aM : Memref sig .tc .vmem S16x128 .f32).access (rowR r)).set ⊆ (rowM r).view.set := by rw [row_set]

abbrev wholeOut : Rect S256x8192 := Rect.unit (s := S256x8192) ![0, 0] S256x8192.size inb_S256x8192_S256x8192_0_0
theorem wp_loadWholeOut {β : Type} {v : Fin 4 → FVec F S256x2048 .f32}
    {hl : (oM : Memref sig .tc .vmem S256x8192 .f32).view.LoadsAt wholeOut.toLoadRect} {k : Vec F S256x8192 .f32 → Prog (TpuEff nD τ sig (Elt F) Λ₀ .tc) β} {Q : β → sProp 𝕄} :
    outAt c v ⊢ iprop((outAt c v -∗ wp frame (wpE (defs₀ (F := F)) 𝒱₀ (c : Thread nD τ) none) Set.univ (k (blocks v)) Q)
      -∗ wp frame (wpE (defs₀ (F := F)) 𝒱₀ (c : Thread nD τ) none) Set.univ (.op (.load oM wholeOut.toLoadRect hl) k) Q) := by
  have h0 := wp_load_rect (defs := defs₀ (F := F)) (Name := ℕ) (U := UU) (Lvl := ℕ) (Ix := ℕ) (Γ := .empty) 𝒱₀ (c : Thread nD τ) none Set.univ (m := oM) (r := wholeOut) (hl := hl) (k := k) (q := fullShare) (Q := Q)
    (f := blocks v) (Finset.subset_univ _)
  rw [show (oM.access wholeOut).read (Elt F) (blocks v) = blocks v from Memref.read_access_unit_zero (Elt F) cc0_stg2_0 (funext fun a => by revert a; decide) _ _] at h0
  exact h0

theorem wp_ownMax (w : FVec F S128 .f32) (Q : PUnit → sProp 𝕄) :
    iprop(outAt c (res X W c) ∗ rowAt 0 c fullShare w)
      ⊢ iprop((iprop(outAt c (res X W c) ∗ rowAt 0 c fullShare (lmax X W c)) -∗ Q ⟨⟩) -∗ wpc c ownMax Q) := by
  unfold ownMax
  simp only [wpc, Prog.lift, Prog.bind_op, Prog.bind_ret]
  iintro ⟨Ho, Ha⟩ Hk
  iapply (wp_loadWholeOut c) $$ Ho
  iintro Ho
  iapply (show rowAt 0 c fullShare w ⊢ _ from wp_load_rect (defs := defs₀ (F := F)) (Name := ℕ) (U := UU) (Lvl := ℕ) (Ix := ℕ) (Γ := .empty) 𝒱₀ (c : Thread nD τ) none Set.univ (m := aM)
    (r := rowR 0) (q := fullShare) (f := (rowM 0).view.rep w) (S := (rowM 0).view.set) (row_subset 0)) $$ Ha
  iintro Ha
  iapply (wp_store (defs := defs₀ (F := F)) (Name := ℕ) (U := UU) (Lvl := ℕ) (Ix := ℕ) (Γ := .empty) 𝒱₀ (c : Thread nD τ) none Set.univ (m := aM) (r := rowR 0)
    (w := k0_pay151 (blocks (res X W c))) (f := (rowM 0).view.rep w) (S := (rowM 0).view.set) (row_subset 0)) $$ Ha
  iintro Ha
  rw [wp_ret]
  imodintro
  iapply Hk
  isplitl [Ho]; · iexact Ho
  iapply (rowAt_of 0 c fullShare (lmax X W c) _ (write_row 0 _ _))
  iexact Ha

/-! ## Copies of a row -/

/-- What the copy of the own maximum to row `r` of the device `r` places to the right needs. -/
def toSend (r : Fin 16) : sProp 𝕄 :=
  iprop(rowAt 0 c (Transfers.dealOf fullShare others r) (lmax X W c) ∗ item r.val (rt c r.val)
    ∗ dutyTok ER (cell (kAxs r) c) 0 0 ∗ reached ER (cell (kAxs r) c) 0 ∗ dutyTok ER (cell (kAxr r) (rt c r.val)) 0 0)

theorem wp_sendMax (r : Fin 16) (hr : r ≠ 0) {O₀ : CellTallies nD τ sig ℕ} (O : CellTallies nD τ sig ℕ)
    (hO : O₀ = O + tallyAt (cell (kAxr r) (rt c r.val)) 40 Nax) (Q : PUnit → sProp 𝕄) :
    iprop(ctx X W κ ∗ owesE c O₀ ∗ toSend X W c r)
      ⊢ iprop((iprop(owesE c O ∗ cred (tallyAt (cell (kAxs r) c) 0 Nax)) -∗ Q ⟨⟩) -∗ wpc c (sendMax r (rt c r.val)) Q) := by
  unfold toSend item owesE
  rw [kk_val]
  iintro ⟨#Hc, ⟨%Wt, HO⟩, Hs, ⟨⟨%w, Hd⟩, Hr2⟩, Ht1, Hr1, Ht2⟩ Hk
  have hpay₂ : ((rowM r).view.loc (rt c r.val : Thread nD τ) ↦[(rowM r).view.set]{fullShare}
        ((rowM r).view.write (Elt F) ((rowM r).view.rep w) ((rowM 0).view.read (Elt F) ((rowM 0).view.rep (lmax X W c))) Finset.univ))
      ⊢ (Rd X W).payload (cell (kAxr r) (rt c r.val)) 0 0 := by
    rw [payload_cell]
    show _ ⊢ rowAt r (rt c r.val) fullShare (rowVal X W (rt c r.val) r)
    refine rowAt_of r (rt c r.val) fullShare _ _ ?_
    rw [View.read_write_univ, View.read_rep]
    unfold rowVal
    rw [rt_rt, show r.val + (16 - r.val) = 16 by omega, rt_full]
  unfold wpc sendMax rowAt
  iapply (Rounds.wp_send_pointsTo (Γ := .empty) 𝒱₀ ER (Rd X W) (c : Thread nD τ) none (c' := (rt c r.val : Thread nD τ)) (src := rowM 0) (dst := rowM r)
      (sS := osem (kAxs r)) (sem := osem (kAxr r)) (q := Transfers.dealOf fullShare others r) (fs := (rowM 0).view.rep (lmax X W c)) (fd := (rowM r).view.rep w)
      (κ₁ := κ (cell (kAxs r) c)) (κ₂ := κ (cell (kAxr r) (rt c r.val))) (r₁ := 0) (r₂ := 0) (d₁ := 0) (d₂ := 0)
      (mem_duties X W c (kAxs r) 0 ⟨rfl, hr⟩) (mem_duties X W (rt c r.val) (kAxr r) 0 ⟨rfl, hr⟩)
      40 0 Nax (amount_row r _) (amount_cell X W c _ _ 0) (amount_cell X W (rt c r.val) _ _ 0) O hO (W := Wt)
      (by rw [payload_cell]; exact BI.Entails.refl _) hpay₂) $$ [HO Hs Hd Ht1 Hr1 Ht2 Hr2]
  · isplitr; · iapply (ctx_cell X W κ (kAxs r) c); iexact Hc
    isplitr; · iapply (ctx_cell X W κ (kAxr r) (rt c r.val)); iexact Hc
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hcr, HO⟩
  rw [wp_ret]
  imodintro
  iapply Hk
  isplitl [HO]; · iexists _; iexact HO
  iexact Hcr

theorem wp_waitMaxSent (r : Fin 16) (hr : r ≠ 0) (Q : PUnit → sProp 𝕄) :
    iprop(ctx X W κ ∗ owesE c 0 ∗ (cred (tallyAt (cell (kAxs r) c) 0 Nax) ∗ atPos ER (cell (kAxs r) c) 0 ∅ 0))
      ⊢ iprop((iprop(owesE c 0 ∗ (rowAt 0 c (Transfers.dealOf fullShare others r) (lmax X W c) ∗ atPos ER (cell (kAxs r) c) 1 ∅ 0)) -∗ Q ⟨⟩) -∗ wpc c (waitMaxSent r) Q) := by
  unfold wpc waitMaxSent
  iintro ⟨#Hc, HO, Hcr, Hat⟩ Hk
  iapply (wp_waitCell X W κ c (kAxs r) 0 ⟨rfl, hr⟩ 0 (by decide) (O := 0) Hi.zero
    (fun Kt => by rw [show amt (kAxs r) = (rowM 0).view.dmaCredit from rfl]; exact wpE_waitDma2_eq 𝒱₀ (c : Thread nD τ) none Set.univ Kt)) $$ [HO Hcr Hat]
  · isplitr; · iexact Hc
    isplitl [Hat]; · iexact Hat
    isplitl [Hcr]; · iexact Hcr
    iexact HO
  iintro ⟨HO, Hat, -, Hp⟩
  rw [wp_ret]
  imodintro
  iapply Hk
  isplitl [HO]; · iexact HO
  isplitl [Hp]; · iapply (show pay X W (kAxs r) c 0 ⊢ rowAt 0 c (Transfers.dealOf fullShare others r) (lmax X W c) from Entails.of_eq rfl); iexact Hp
  iexact Hat

theorem wp_waitMaxLanded (r : Fin 16) (hr : r ≠ 0) (Q : PUnit → sProp 𝕄) :
    iprop(ctx X W κ ∗ owesE c 0 ∗ (cred (tallyAt (cell (kAxr r) c) 40 Nax) ∗ atPos ER (cell (kAxr r) c) 0 ∅ 0))
      ⊢ iprop((iprop(owesE c 0 ∗ (rowAt r c fullShare (rowVal X W c r) ∗ atPos ER (cell (kAxr r) c) 1 ∅ 0)) -∗ Q ⟨⟩) -∗ wpc c (waitMaxLanded r) Q) := by
  unfold wpc waitMaxLanded
  iintro ⟨#Hc, HO, Hcr, Hat⟩ Hk
  iapply (wp_waitCell X W κ c (kAxr r) 0 ⟨rfl, hr⟩ 40 (by decide) (O := 0) Hi.zero
    (fun Kt => by rw [show amt (kAxr r) = (rowM r).view.dmaCredit from (credit_row r).symm]; exact wpE_waitDma2_eq 𝒱₀ (c : Thread nD τ) none Set.univ Kt)) $$ [HO Hcr Hat]
  · isplitr; · iexact Hc
    isplitl [Hat]; · iexact Hat
    isplitl [Hcr]; · iexact Hcr
    iexact HO
  iintro ⟨HO, Hat, -, Hp⟩
  rw [wp_ret]
  imodintro
  iapply Hk
  isplitl [HO]; · iexact HO
  isplitl [Hp]; · iapply (show pay X W (kAxr r) c 0 ⊢ rowAt r c fullShare (rowVal X W c r) from Entails.of_eq rfl); iexact Hp
  iexact Hat

end Cert.Rows
-- ==== Proof.RingStep.lean ====
module

public import proofs.«01_k».proof.Proof.Rows
public import Idealize.SL.BI.BigOpNat

@[expose] public section

noncomputable section

/-! One step of the two rings: what a device holds before it, in its middle, and after it. -/

namespace Cert.RingStep

open Cert.KernelIdeal Cert.KernelIdeal.Gen Cert.Steps Cert.Contents Cert.Ring Cert.Sched Cert.Cells Cert.Pieces Cert.Rows
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : XT F) (W : WT F) (κ : GSem nD τ sig → ℕ) (ρ : Fin 2) (c : Dev nD)

/-! ## What is held -/

/-- What step `t` of a ring uses up: the duties of its copy, and the credit of the copy that lands. -/
def tk (t : ℕ) : sProp 𝕄 :=
  iprop(dutyTok ER (cell (kRecv ρ (par (t + 1))) (dn ρ c)) (t / 2) 0 ∗ dutyTok ER (cell (kSend ρ (par t)) c) (t / 2) 0
    ∗ cred (tallyAt (cell (kRecv ρ (par (t + 1))) c) (2 * t + 2) N))
/-- What the grant after step `t` and the wait for the grant use up. -/
def tkc (t : ℕ) : sProp 𝕄 :=
  iprop(dutyTok ER (cell (kCred ρ) (up ρ c)) t 0 ∗ cred (tallyAt (cell (kCred ρ) c) (2 * t + 3) 1))
/-- The rows of maxima that have come to their place. -/
def got (s : ℕ) : sProp 𝕄 := if ρ = 1 then bigSep (Finset.Ico 1 (s + 1)) fun r => item r (rt c r) else iprop(emp)
/-- What step `s` leaves alone, `n` grants made. -/
def keep (s n : ℕ) : sProp 𝕄 :=
  iprop(reached ER (cell (kRecv ρ (par s)) c) ((s + 1) / 2)
    ∗ (atPos ER (cell (kSend ρ (par (s + 1))) c) ((s + 1) / 2) ∅ 0 ∗ reached ER (cell (kSend ρ (par (s + 1))) c) ((s + 1) / 2))
    ∗ atPos ER (cell (kRecv ρ (par s)) c) ((s + 1) / 2) ∅ 0 ∗ atPos ER (cell (kCred ρ) c) s ∅ 0
    ∗ bigSep (Finset.Ico (s + 1) 15) (tk ρ c) ∗ bigSep (Finset.Ico n 14) (tkc ρ c) ∗ got ρ c s)
/-- Before step `s`. -/
def st (s : ℕ) : sProp 𝕄 :=
  iprop(slotAt (M ρ) (par s) c (acc X W ρ s c) ∗ slotAny ρ (par (s + 1)) (dn ρ c) ∗ reached ER (cell (kSend ρ (par s)) c) (s / 2)
    ∗ reached ER (cell (kRecv ρ (par (s + 1))) (dn ρ c)) (s / 2) ∗ reached ER (cell (kCred ρ) c) s ∗ travOn ρ c s ∗ tk ρ c s
    ∗ atPos ER (cell (kSend ρ (par s)) c) (s / 2) ∅ 0 ∗ atPos ER (cell (kRecv ρ (par (s + 1))) c) (s / 2) ∅ 0 ∗ keep ρ c s s)
/-- Its copy made. -/
def sent (s : ℕ) : sProp 𝕄 :=
  iprop(cred (tallyAt (cell (kSend ρ (par s)) c) 0 N) ∗ cred (tallyAt (cell (kRecv ρ (par (s + 1))) c) (2 * s + 2) N)
    ∗ atPos ER (cell (kSend ρ (par s)) c) (s / 2) ∅ 0 ∗ atPos ER (cell (kRecv ρ (par (s + 1))) c) (s / 2) ∅ 0 ∗ keep ρ c s s)
/-- The positions after its two waits. -/
def past (s : ℕ) : sProp 𝕄 :=
  iprop(atPos ER (cell (kSend ρ (par s)) c) (s / 2 + 1) ∅ 0 ∗ reached ER (cell (kSend ρ (par s)) c) (s / 2 + 1)
    ∗ atPos ER (cell (kRecv ρ (par (s + 1))) c) (s / 2 + 1) ∅ 0 ∗ reached ER (cell (kRecv ρ (par (s + 1))) c) (s / 2 + 1))
/-- Both copies complete: the slot read, and what the neighbour's copy brought beside its slot. -/
def held (s : ℕ) : sProp 𝕄 :=
  iprop(slotAt (M ρ) (par s) c (acc X W ρ s c) ∗ past ρ c s ∗ reached ER (cell (kCred ρ) (up ρ c)) s ∗ travOn ρ (up ρ c) s ∗ keep ρ c s s)
/-- The credit granted. -/
def granted (s : ℕ) : sProp 𝕄 :=
  iprop(past ρ c s ∗ travOn ρ (up ρ c) s ∗ cred (tallyAt (cell (kCred ρ) c) (2 * s + 3) 1) ∗ keep ρ c s (s + 1))

/-! ## The operations -/

theorem wp_ringSend (s : ℕ) (hs : s < 15) {O₀ : CellTallies nD τ sig ℕ} (O : CellTallies nD τ sig ℕ)
    (hO : O₀ = O + tallyAt (cell (kRecv ρ (par (s + 1))) (dn ρ c)) (2 * s + 2) N) (Q : PUnit → sProp 𝕄) :
    iprop(ctx X W κ ∗ owesE c O₀ ∗ st X W ρ c s)
      ⊢ iprop((iprop(owesE c O ∗ sent ρ c s) -∗ Q ⟨⟩) -∗ wpc c (sendSlot (M ρ) (A ρ) (B ρ) (par s) (par (s + 1)) (dn ρ c)) Q) := by
  unfold st sent tk
  iintro ⟨#Hc, HO, Hs, Hd, Hr1, Hr2, Hrc, Htr, ⟨Ht2, Ht1, Hcr⟩, Ha1, Ha2, Hk⟩ HQ
  iapply (wp_sendSlot X W κ c ρ s hs O hO) $$ [HO Hs Hd Hr1 Hr2 Hrc Htr Ht1 Ht2]
  · isplitr; · iexact Hc
    isplitl [HO]; · iexact HO
    isplitl [Hs]; · iexact Hs
    isplitl [Hd]; · iexact Hd
    isplitl [Ht1]; · iexact Ht1
    isplitl [Hr1]; · iexact Hr1
    isplitl [Ht2]; · iexact Ht2
    isplitl [Hr2]; · iexact Hr2
    isplitl [Hrc]; · iexact Hrc
    iexact Htr
  iintro ⟨HO, Hcs⟩
  iapply HQ
  isplitl [HO]; · iexact HO
  isplitl [Hcs]; · iexact Hcs
  isplitl [Hcr]; · iexact Hcr
  isplitl [Ha1]; · iexact Ha1
  isplitl [Ha2]; · iexact Ha2
  iexact Hk

theorem wp_ringWait (s : ℕ) (hs : s < 15) {O : CellTallies nD τ sig ℕ} (h0 : Hi 0 O) (h1 : Hi (2 * s + 2) O) (Q : PUnit → sProp 𝕄) :
    iprop(ctx X W κ ∗ owesE c O ∗ sent ρ c s)
      ⊢ iprop((iprop(owesE c O ∗ slotAt (M ρ) (par (s + 1)) c (acc X W ρ s (up ρ c)) ∗ held X W ρ c s) -∗ Q ⟨⟩)
        -∗ wpc c (waitSent (M ρ) (A ρ) (par s) (par (s + 1)) >>= fun _ => waitLanded (M ρ) (B ρ) (par s) (par (s + 1))) Q) := by
  unfold sent held past
  simp only [wpc, wp_bind]
  iintro ⟨#Hc, HO, Hcs, Hcr, Ha1, Ha2, Hk⟩ HQ
  iapply (wp_waitSent X W κ c ρ s hs h0) $$ [HO Hcs Ha1]
  · isplitr; · iexact Hc
    isplitl [Ha1]; · iexact Ha1
    isplitl [Hcs] <;> iassumption
  iintro ⟨HO, Ha1, Hr1, Hs⟩
  iapply (wp_waitLanded X W κ c ρ s hs h1) $$ [HO Hcr Ha2]
  · isplitr; · iexact Hc
    isplitl [Ha2]; · iexact Ha2
    isplitl [Hcr] <;> iassumption
  unfold landPay
  iintro ⟨HO, Ha2, Hr2, Hl, Hrc, Htr⟩
  iapply HQ
  isplitl [HO]; · iexact HO
  isplitl [Hl]; · iexact Hl
  isplitl [Hs]; · iexact Hs
  isplitl [Ha1 Hr1 Ha2 Hr2]
  · isplitl [Ha1]; · iexact Ha1
    isplitl [Hr1]; · iexact Hr1
    isplitl [Ha2] <;> iassumption
  isplitl [Hrc]; · iexact Hrc
  isplitl [Htr]; · iexact Htr
  iexact Hk

theorem wp_ringGrant (s : ℕ) (hs : s < 14) {O₀ : CellTallies nD τ sig ℕ} (O : CellTallies nD τ sig ℕ)
    (hO : O₀ = O + tallyAt (cell (kCred ρ) (up ρ c)) (2 * s + 3) 1) (Q : PUnit → sProp 𝕄) :
    iprop(ctx X W κ ∗ owesE c O₀ ∗ held X W ρ c s)
      ⊢ iprop((iprop(owesE c O ∗ granted ρ c s) -∗ Q ⟨⟩) -∗ wpc c (semSignalWord (up ρ c) (Cr ρ) 1#32) Q) := by
  unfold held granted keep wpc semSignalWord
  rw [bigSep_Ico_succ_bot hs]
  unfold tkc
  iintro ⟨#Hc, HO, Hs, Hp, Hru, Htr, #Hr, Hk2, Hk3, Hk4, Hk5, ⟨⟨Ht, Hcr⟩, Hk6⟩, Hk7⟩ HQ
  iapply (wp_grant X W κ c ρ (up ρ c) s hs O hO) $$ [HO Hs Hru Ht]
  · isplitr; · iexact Hc
    isplitl [HO]; · iexact HO
    isplitl [Ht]; · iexact Ht
    isplitl [Hru]; · iexact Hru
    unfold credPay slotAny
    rw [dn_up]
    isplitl [Hs]; · iexists _; iexact Hs
    iexact Hr
  iintro HO
  rw [wp_ret]
  imodintro
  iapply HQ
  isplitl [HO]; · iexact HO
  isplitl [Hp]; · iexact Hp
  isplitl [Htr]; · iexact Htr
  isplitl [Hcr]; · iexact Hcr
  isplitr; · iexact Hr
  isplitl [Hk2]; · iexact Hk2
  isplitl [Hk3]; · iexact Hk3
  isplitl [Hk4]; · iexact Hk4
  isplitl [Hk5]; · iexact Hk5
  isplitl [Hk6] <;> iassumption

/-- Of the rows that came with step `s` one stays, the rest travel on. -/
theorem trav_step (s : ℕ) (hs : s < 15) : iprop(travOn ρ (up ρ c) s ∗ got (F := F) ρ c s) ⊢ iprop(travOn ρ c (s + 1) ∗ got ρ c (s + 1)) := by
  unfold travOn got trav
  match ρ with
  | 0 => exact BI.Entails.refl _
  | 1 =>
    rw [if_pos rfl, if_pos rfl, if_pos rfl, if_pos rfl, bigSep_Ico_succ_bot (show s + 1 < 16 by omega), bigSep_Ico_succ_top (show 1 ≤ s + 1 by omega), up_one, rt_rt,
      show 1 + s = s + 1 by omega]
    iintro ⟨⟨Hi, Ht⟩, Hg⟩
    isplitl [Ht]; · iexact Ht
    isplitl [Hi] <;> iassumption

theorem wp_ringCredit (s : ℕ) (hs : s < 14) {O : CellTallies nD τ sig ℕ} (h : Hi (2 * s + 3) O) (Q : PUnit → sProp 𝕄) :
    iprop(ctx X W κ ∗ owesE c O ∗ slotAt (M ρ) (par (s + 1)) c (acc X W ρ (s + 1) c) ∗ granted ρ c s)
      ⊢ iprop((iprop(owesE c O ∗ st X W ρ c (s + 1)) -∗ Q ⟨⟩) -∗ wpc c (semWaitWord (Cr ρ) 1#32) Q) := by
  unfold granted past st keep wpc semWaitWord
  rw [par_two, show (s + 1 + 1) / 2 = s / 2 + 1 by omega, bigSep_Ico_succ_bot (show s + 1 < 15 by omega)]
  iintro ⟨#Hc, HO, Hs, ⟨Ha1, Hr1, Ha2, Hr2⟩, Htr, Hcr, -, ⟨Ha3, Hr3⟩, Ha4, Ha5, ⟨Hk, Hk'⟩, Hkc, Hg⟩ HQ
  iapply (wp_waitCredit X W κ c ρ s hs h) $$ [HO Hcr Ha5]
  · isplitr; · iexact Hc
    isplitl [Ha5]; · iexact Ha5
    isplitl [Hcr] <;> iassumption
  unfold credPay
  iintro ⟨HO, Ha5, Hrc, Hd, Hrd⟩
  ihave ⟨Htr, Hg⟩ := (trav_step ρ c s (by omega)) $$ [Htr Hg]
  · isplitl [Htr] <;> iassumption
  rw [wp_ret]
  imodintro
  iapply HQ
  isplitl [HO]; · iexact HO
  isplitl [Hs]; · iexact Hs
  isplitl [Hd]; · iexact Hd
  isplitl [Hr3]; · iexact Hr3
  isplitl [Hrd]; · iexact Hrd
  isplitl [Hrc]; · iexact Hrc
  isplitl [Htr]; · iexact Htr
  isplitl [Hk]; · iexact Hk
  isplitl [Ha3]; · iexact Ha3
  isplitl [Ha4]; · iexact Ha4
  isplitl [Hr2]; · iexact Hr2
  isplitl [Ha1 Hr1]
  · isplitl [Ha1] <;> iassumption
  isplitl [Ha2]; · iexact Ha2
  isplitl [Ha5]; · iexact Ha5
  isplitl [Hk']; · iexact Hk'
  isplitl [Hkc] <;> iassumption

/-! ## A whole step -/

/-- What is owed: the copies of the two rings from steps `a`, the grants from steps `b`, the copies of the maximum from row `x`. -/
def ow (a a' b b' x : ℕ) : CellTallies nD τ sig ℕ := oRing 0 c a + oRing 1 c a' + oCred 0 c b + oCred 1 c b' + oAx c x
theorem hi_ow (a a' b b' x n : ℕ) (h : n < 2 * a + 2) (h' : n < 2 * a' + 2) (h2 : n < 2 * b + 3) (h2' : n < 2 * b' + 3) (h3 : n < 40) : Hi n (ow c a a' b b' x) :=
  ((((hi_ring 0 c a n h).add (hi_ring 1 c a' n h')).add (hi_cred 0 c b n h2)).add (hi_cred 1 c b' n h2')).add (hi_ax c x n h3)

theorem ow_ring0 (a a' b b' x : ℕ) (h : a < 15) :
    ow c a a' b b' x = ow c (a + 1) a' b b' x + tallyAt (cell (kRecv 0 (par (a + 1))) (dn 0 c)) (2 * a + 2) N := by
  unfold ow; rw [oRing_step 0 c a h]; abel
theorem ow_ring1 (a a' b b' x : ℕ) (h : a' < 15) :
    ow c a a' b b' x = ow c a (a' + 1) b b' x + tallyAt (cell (kRecv 1 (par (a' + 1))) (dn 1 c)) (2 * a' + 2) N := by
  unfold ow; rw [oRing_step 1 c a' h]; abel
theorem ow_cred0 (a a' b b' x : ℕ) (h : b < 14) :
    ow c a a' b b' x = ow c a a' (b + 1) b' x + tallyAt (cell (kCred 0) (up 0 c)) (2 * b + 3) 1 := by
  unfold ow; rw [oCred_step 0 c b h]; abel
theorem ow_cred1 (a a' b b' x : ℕ) (h : b' < 14) :
    ow c a a' b b' x = ow c a a' b (b' + 1) x + tallyAt (cell (kCred 1) (up 1 c)) (2 * b' + 3) 1 := by
  unfold ow; rw [oCred_step 1 c b' h]; abel

theorem exchange_eq (s : Fin 15) : exchange (F := F) c s (dn 0 c) (dn 1 c)
    = (sendSlot (M 0) (A 0) (B 0) (par s.val) (par (s.val + 1)) (dn 0 c) >>= fun _ =>
      sendSlot (M 1) (A 1) (B 1) (par s.val) (par (s.val + 1)) (dn 1 c) >>= fun _ =>
      mm c (kk (s.val + 1)) >>= fun _ =>
      (waitSent (M 0) (A 0) (par s.val) (par (s.val + 1)) >>= fun _ => waitLanded (M 0) (B 0) (par s.val) (par (s.val + 1))) >>= fun _ =>
      (waitSent (M 1) (A 1) (par s.val) (par (s.val + 1)) >>= fun _ => waitLanded (M 1) (B 1) (par s.val) (par (s.val + 1)))) := by
  rw [show kk (s.val + 1) = s.succ from kk_val s.succ]
  rfl

theorem wp_exchange (s : Fin 15) (b : ℕ) (hb : s.val ≤ b) (Q : PUnit → sProp 𝕄) :
    iprop(ctx X W κ ∗ owesE c (ow c s.val s.val b b 1) ∗ (∃ v, stg X W c v) ∗ st X W 0 c s.val ∗ st X W 1 c s.val)
      ⊢ iprop((iprop(owesE c (ow c (s.val + 1) (s.val + 1) b b 1) ∗ stg X W c (prods X W c (kk (s.val + 1)))
          ∗ (slotAt (M 0) (par (s.val + 1)) c (acc X W 0 s.val (up 0 c)) ∗ held X W 0 c s.val)
          ∗ (slotAt (M 1) (par (s.val + 1)) c (acc X W 1 s.val (up 1 c)) ∗ held X W 1 c s.val)) -∗ Q ⟨⟩)
        -∗ wpc c (exchange c s (dn 0 c) (dn 1 c)) Q) := by
  have hs : s.val < 15 := s.isLt
  rw [exchange_eq]
  unfold wpc
  rw [wp_bind]
  iintro ⟨#Hc, HO, ⟨%v, Hg⟩, H0, H1⟩ HQ
  iapply (wp_ringSend X W κ 0 c s.val hs (ow c (s.val + 1) s.val b b 1) (ow_ring0 c _ _ _ _ _ hs)) $$ [HO H0]
  · isplitr; · iexact Hc
    isplitl [HO] <;> iassumption
  iintro ⟨HO, H0⟩
  rw [wp_bind]
  iapply (wp_ringSend X W κ 1 c s.val hs (ow c (s.val + 1) (s.val + 1) b b 1) (ow_ring1 c _ _ _ _ _ hs)) $$ [HO H1]
  · isplitr; · iexact Hc
    isplitl [HO] <;> iassumption
  iintro ⟨HO, H1⟩
  rw [wp_bind]
  iapply (wp_mm X W c) $$ Hg
  iintro Hg
  have h0 : Hi 0 (ow c (s.val + 1) (s.val + 1) b b 1) := hi_ow c _ _ _ _ _ _ (by omega) (by omega) (by omega) (by omega) (by omega)
  have h1 : Hi (2 * s.val + 2) (ow c (s.val + 1) (s.val + 1) b b 1) := hi_ow c _ _ _ _ _ _ (by omega) (by omega) (by omega) (by omega) (by omega)
  rw [wp_bind]
  iapply (wp_ringWait X W κ 0 c s.val hs h0 h1) $$ [HO H0]
  · isplitr; · iexact Hc
    isplitl [HO] <;> iassumption
  iintro ⟨HO, H0⟩
  iapply (wp_ringWait X W κ 1 c s.val hs h0 h1) $$ [HO H1]
  · isplitr; · iexact Hc
    isplitl [HO] <;> iassumption
  iintro ⟨HO, H1⟩
  iapply HQ
  isplitl [HO]; · iexact HO
  isplitl [Hg]; · iexact Hg
  isplitl [H0] <;> iassumption

end Cert.RingStep
-- ==== Proof.Loop.lean ====
module

public import proofs.«01_k».proof.Proof.RingStep

@[expose] public section

noncomputable section

/-! The fifteen ring steps, one after the other. -/

namespace Cert.Loop

open Cert.KernelIdeal Cert.KernelIdeal.Gen Cert.Steps Cert.Contents Cert.Ring Cert.Sched Cert.Cells Cert.Pieces Cert.Rows Cert.RingStep
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The devices the body names -/

theorem tgtR_eq (c : Dev nD) (s : Fin 15) : tgtR c s = dn 0 c := by revert c s; decide
theorem tgtL_eq (c : Dev nD) (s : Fin 15) : tgtL c s = dn 1 c := by revert c s; decide
theorem grL_eq (c : Dev nD) (s : Fin 14) : grL c s = up 0 c := by revert c s; decide
theorem grR_eq (c : Dev nD) (s : Fin 14) : grR c s = up 1 c := by revert c s; decide
theorem tgtA_eq (c : Dev nD) (r : Fin 15) : tgtA c r = rt c r.succ.val := by revert c r; decide
theorem dev1_eq (c : Dev nD) : (⟨k0_dev1 c, k0_dev1_lt c⟩ : Dev nD) = up 0 c := by revert c; decide
theorem dev2_eq (c : Dev nD) : (⟨k0_dev2 c, k0_dev2_lt c⟩ : Dev nD) = up 1 c := by revert c; decide

variable (X : XT F) (W : WT F) (κ : GSem nD τ sig → ℕ) (c : Dev nD)

/-- What a device holds before step `s`. -/
def before (s : ℕ) : sProp 𝕄 :=
  iprop(ctx X W κ ∗ owesE c (ow c s s s s 1) ∗ (∃ v, stg X W c v) ∗ st X W 0 c s ∗ st X W 1 c s)

theorem step_eq (s : Fin 15) : step (F := F) c s (dn 0 c) (dn 1 c) (up 0 c) (up 1 c)
    = (exchange c s (dn 0 c) (dn 1 c) >>= fun _ =>
      (foldHalf (par (s.val + 1)) 0 0 2 >>= fun _ => foldHalf (par (s.val + 1)) 1 1 3) >>= fun _ =>
      semSignalWord (up 0 c) (Cr 0) 1#32 >>= fun _ => semSignalWord (up 1 c) (Cr 1) 1#32 >>= fun _ =>
      semWaitWord (Cr 0) 1#32 >>= fun _ => semWaitWord (Cr 1) 1#32) := by
  unfold step grants credits
  simp only [bind_assoc]
  rfl

theorem wp_step (s : Fin 14) (Q : PUnit → sProp 𝕄) :
    before X W κ c s.val
      ⊢ iprop((before X W κ c (s.val + 1) -∗ Q ⟨⟩) -∗ wpc c (step c s.castSucc (tgtR c s.castSucc) (tgtL c s.castSucc) (grL c s) (grR c s)) Q) := by
  have hs : s.val < 14 := s.isLt
  have hx := fun Q => wp_exchange X W κ c s.castSucc s.val (le_refl _) Q
  simp only [Fin.val_castSucc] at hx
  rw [tgtR_eq, tgtL_eq, grL_eq, grR_eq, step_eq]
  unfold before wpc
  rw [wp_bind]
  iintro ⟨#Hc, H⟩ HQ
  iapply (hx _) $$ [H]
  · isplitr; · iexact Hc
    iexact H
  iintro ⟨HO, Hg, ⟨H0, Hh0⟩, ⟨H1, Hh1⟩⟩
  unfold stg
  icases Hg with ⟨Hx, Hw, Ho⟩
  rw [wp_bind]
  iapply (wp_fold X W c s.val (by omega)) $$ [Ho H0 H1]
  · isplitl [Ho]; · iexact Ho
    isplitl [H0] <;> iassumption
  iintro ⟨Ho, H0, H1⟩
  rw [wp_bind]
  iapply (wp_ringGrant X W κ 0 c s.val hs (ow c (s.val + 1) (s.val + 1) (s.val + 1) s.val 1) (ow_cred0 c _ _ _ _ _ hs)) $$ [HO Hh0]
  · isplitr; · iexact Hc
    isplitl [HO] <;> iassumption
  iintro ⟨HO, Hh0⟩
  rw [wp_bind]
  iapply (wp_ringGrant X W κ 1 c s.val hs (ow c (s.val + 1) (s.val + 1) (s.val + 1) (s.val + 1) 1) (ow_cred1 c _ _ _ _ _ hs)) $$ [HO Hh1]
  · isplitr; · iexact Hc
    isplitl [HO] <;> iassumption
  iintro ⟨HO, Hh1⟩
  have h1 : Hi (2 * s.val + 3) (ow c (s.val + 1) (s.val + 1) (s.val + 1) (s.val + 1) 1) :=
    hi_ow c _ _ _ _ _ _ (by omega) (by omega) (by omega) (by omega) (by omega)
  rw [wp_bind]
  iapply (wp_ringCredit X W κ 0 c s.val hs h1) $$ [HO Hh0 H0]
  · isplitr; · iexact Hc
    isplitl [HO]; · iexact HO
    isplitl [H0] <;> iassumption
  iintro ⟨HO, H0⟩
  iapply (wp_ringCredit X W κ 1 c s.val hs h1) $$ [HO Hh1 H1]
  · isplitr; · iexact Hc
    isplitl [HO]; · iexact HO
    isplitl [H1] <;> iassumption
  iintro ⟨HO, H1⟩
  iapply HQ
  isplitr; · iexact Hc
  isplitl [HO]; · iexact HO
  isplitl [Hx Hw Ho]
  · iexists _
    isplitl [Hx]; · iexact Hx
    isplitl [Hw] <;> iassumption
  isplitl [H0] <;> iassumption

theorem wp_steps (Q : PUnit → sProp 𝕄) :
    before X W κ c 0 ⊢ iprop((before X W κ c 14 -∗ Q ⟨⟩)
      -∗ wpc c (seqN fun s : Fin 14 => step c s.castSucc (tgtR c s.castSucc) (tgtL c s.castSucc) (grL c s) (grR c s)) Q) :=
  wp_seqN c _ (before X W κ c) (fun s Q => wp_step X W κ c s Q) Q

theorem last_eq : lastStep (F := F) c (dn 0 c) (dn 1 c)
    = (exchange c 14 (dn 0 c) (dn 1 c) >>= fun _ => (lastHalf (par 15) 0 0 2 >>= fun _ => lastHalf (par 15) 1 1 3)) := rfl

theorem ow_end : ow c 15 15 14 14 1 = oAx c 1 := by
  unfold ow; rw [oRing_end, oRing_end, oCred_end, oCred_end]; simp

/-- After the last step: the output block holds the finished sums, both slots of both rings are at rest. -/
def after : sProp 𝕄 :=
  iprop(owesE c (oAx c 1) ∗ stg X W c (res X W c)
    ∗ (slotAt (M 0) (par 15) c (acc X W 0 14 (up 0 c)) ∗ held X W 0 c 14) ∗ (slotAt (M 1) (par 15) c (acc X W 1 14 (up 1 c)) ∗ held X W 1 c 14))

theorem wp_lastStep (Q : PUnit → sProp 𝕄) :
    before X W κ c 14 ⊢ iprop((after X W c -∗ Q ⟨⟩) -∗ wpc c (lastStep c (tgtR c 14) (tgtL c 14)) Q) := by
  have hx := fun Q => wp_exchange X W κ c 14 14 (le_refl _) Q
  simp only [show (14 : Fin 15).val = 14 from rfl, show 14 + 1 = 15 from rfl, show kk 15 = 15 from rfl] at hx
  rw [tgtR_eq, tgtL_eq, last_eq]
  unfold before after wpc
  rw [wp_bind, ← ow_end]
  iintro H HQ
  iapply (hx _) $$ H
  iintro ⟨HO, Hg, ⟨H0, Hh0⟩, ⟨H1, Hh1⟩⟩
  unfold stg
  icases Hg with ⟨Hx, Hw, Ho⟩
  iapply (wp_last X W c (par 15)) $$ [Ho H0 H1]
  · isplitl [Ho]; · iexact Ho
    isplitl [H0] <;> iassumption
  iintro ⟨Ho, H0, H1⟩
  iapply HQ
  isplitl [HO]; · iexact HO
  isplitl [Hx Hw Ho]
  · isplitl [Hx]; · iexact Hx
    isplitl [Hw] <;> iassumption
  isplitl [H0 Hh0]
  · isplitl [H0] <;> iassumption
  isplitl [H1] <;> iassumption

end Cert.Loop
-- ==== Proof.Maxima.lean ====
module

public import proofs.«01_k».proof.Proof.Loop

@[expose] public section

noncomputable section

/-! From the finished sums to the quantised block: the maxima exchanged, and the output rewritten. -/

namespace Cert.Maxima

open Cert.KernelIdeal Cert.KernelIdeal.Gen Cert.Steps Cert.Contents Cert.Ring Cert.Sched Cert.Cells Cert.Pieces Cert.Rows Cert.RingStep Cert.Loop
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : XT F) (W : WT F) (κ : GSem nD τ sig → ℕ) (c : Dev nD)

/-- The duties of the fifteen copies of the own maximum. -/
def axDuties : sProp 𝕄 := bigSep Finset.univ fun i : Fin 15 =>
  iprop(dutyTok ER (cell (kAxs i.succ) c) 0 0 ∗ reached ER (cell (kAxs i.succ) c) 0 ∗ dutyTok ER (cell (kAxr i.succ) (rt c i.succ.val)) 0 0)
/-- The credits of the fifteen copies that come in. -/
def axCreds : sProp 𝕄 := bigSep Finset.univ fun i : Fin 15 => cred (tallyAt (cell (kAxr i.succ) c) 40 Nax)
/-- The positions at the semaphores of the maxima. -/
def atAxs (R : ℕ) : sProp 𝕄 := bigSep Finset.univ fun i : Fin 15 => atPos ER (cell (kAxs i.succ) c) R ∅ 0
def atAxr (R : ℕ) : sProp 𝕄 := bigSep Finset.univ fun i : Fin 15 => atPos ER (cell (kAxr i.succ) c) R ∅ 0
/-- The other devices' rows that the maximum goes to. -/
def targets : sProp 𝕄 := bigSep Finset.univ fun i : Fin 15 => item i.succ.val (rt c i.succ.val)

theorem got_all : got (F := F) 1 c 15 = targets c := by
  have h : (Finset.Ico 1 (15 + 1) : Finset ℕ) = Finset.univ.map ⟨fun i : Fin 15 => i.succ.val, fun _ _ h => Fin.succ_injective _ (Fin.ext h)⟩ := by decide
  unfold got targets
  rw [if_pos rfl, h, bigSep_map]
  rfl

/-- Row 0, dealt among the fifteen copies. -/
theorem row0_dealt : (rowAt 0 c fullShare (lmax X W c) : sProp 𝕄)
    = bigSep Finset.univ fun i : Fin 15 => rowAt 0 c (Transfers.dealOf fullShare others i.succ) (lmax X W c) := by
  rw [← others_eq (fun r => rowAt 0 c (Transfers.dealOf fullShare others r) (lmax X W c))]
  unfold rowAt
  exact Transfers.pointsTo_deal others others_ne fullShare

theorem toSend_all : (bigSep Finset.univ fun i : Fin 15 => toSend X W c i.succ)
    = iprop((bigSep Finset.univ fun i : Fin 15 => rowAt 0 c (Transfers.dealOf fullShare others i.succ) (lmax X W c)) ∗ targets c ∗ axDuties c) := by
  unfold toSend targets axDuties
  rw [bigSep_sep', bigSep_sep']

theorem rows_all : iprop(rowAt 0 c fullShare (lmax X W c) ∗ bigSep Finset.univ fun i : Fin 15 => rowAt i.succ c fullShare (rowVal X W c i.succ))
    ⊢ (((aM : Memref sig .tc .vmem S16x128 .f32).view.loc (c : Thread nD τ) ↦{fullShare} rowsBuf (rowVal X W c)) : sProp 𝕄) := by
  rw [← rows_join c fullShare (rowVal X W c), univ_succ (n := 15) fun r => rowAt r c fullShare (rowVal X W c r), show rowVal X W c 0 = lmax X W c from congrArg (lmax X W) (rt_full c)]

/-- The copies of the maxima and the waits for them. -/
theorem wp_exchangeMax (Q : PUnit → sProp 𝕄) :
    iprop(ctx X W κ ∗ owesE c (oAx c 1) ∗ rowAt 0 c fullShare (lmax X W c) ∗ targets c ∗ axDuties c ∗ axCreds c ∗ atAxs c 0 ∗ atAxr c 0)
      ⊢ iprop((iprop(owesE c 0 ∗ ((aM : Memref sig .tc .vmem S16x128 .f32).view.loc (c : Thread nD τ) ↦{fullShare} rowsBuf (rowVal X W c)) ∗ atAxs c 1 ∗ atAxr c 1) -∗ Q ⟨⟩)
        -∗ wpc c ((seqN fun r : Fin 15 => sendMax r.succ (tgtA c r)) >>= fun _ => (seqN fun r : Fin 15 => waitMaxSent r.succ) >>= fun _ =>
          seqN fun r : Fin 15 => waitMaxLanded r.succ) Q) := by
  have e : ∀ i : Fin 15, oAx c (i.val + 1) = oAx c (i.val + 1 + 1) + tallyAt (cell (kAxr i.succ) (rt c i.succ.val)) 40 Nax := fun i => by
    have h := oAx_step c (i.val + 1) (by omega)
    rwa [show kk (i.val + 1) = i.succ from kk_val i.succ] at h
  have h1 := fun Q => wp_each X W κ c (fun r : Fin 15 => sendMax r.succ (tgtA c r)) (fun i => toSend X W c i.succ)
    (fun i => cred (tallyAt (cell (kAxs i.succ) c) 0 Nax)) (fun k => oAx c (k + 1))
    (fun i Q => by rw [tgtA_eq]; exact wp_sendMax X W κ c i.succ (Fin.succ_ne_zero i) _ (e i) Q) Q
  have h2 := fun Q => wp_each X W κ c (fun r : Fin 15 => waitMaxSent r.succ)
    (fun i => iprop(cred (tallyAt (cell (kAxs i.succ) c) 0 Nax) ∗ atPos ER (cell (kAxs i.succ) c) 0 ∅ 0))
    (fun i => iprop(rowAt 0 c (Transfers.dealOf fullShare others i.succ) (lmax X W c) ∗ atPos ER (cell (kAxs i.succ) c) 1 ∅ 0)) (fun _ => 0)
    (fun i Q => wp_waitMaxSent X W κ c i.succ (Fin.succ_ne_zero i) Q) Q
  have h3 := fun Q => wp_each X W κ c (fun r : Fin 15 => waitMaxLanded r.succ)
    (fun i => iprop(cred (tallyAt (cell (kAxr i.succ) c) 40 Nax) ∗ atPos ER (cell (kAxr i.succ) c) 0 ∅ 0))
    (fun i => iprop(rowAt i.succ c fullShare (rowVal X W c i.succ) ∗ atPos ER (cell (kAxr i.succ) c) 1 ∅ 0)) (fun _ => 0)
    (fun i Q => wp_waitMaxLanded X W κ c i.succ (Fin.succ_ne_zero i) Q) Q
  simp only [toSend_all, bigSep_sep', show oAx c (0 + 1) = oAx c 1 from rfl, show oAx c (15 + 1) = 0 from oAx_end c, ← row0_dealt] at h1 h2 h3
  unfold wpc
  rw [wp_bind]
  iintro ⟨#Hc, HO, Hr, Ht, Hd, Hcr, Has, Har⟩ HQ
  iapply (h1 _) $$ [HO Hr Ht Hd]
  · isplitr; · iexact Hc
    isplitl [HO]; · iexact HO
    isplitl [Hr]; · iexact Hr
    isplitl [Ht] <;> iassumption
  iintro ⟨HO, Hcs⟩
  rw [wp_bind]
  iapply (h2 _) $$ [HO Hcs Has]
  · isplitr; · iexact Hc
    isplitl [HO]; · iexact HO
    isplitl [Hcs]; · iexact Hcs
    unfold atAxs; iexact Has
  iintro ⟨HO, Hr, Has⟩
  iapply (h3 _) $$ [HO Hcr Har]
  · isplitr; · iexact Hc
    isplitl [HO]; · iexact HO
    isplitl [Hcr]; · unfold axCreds; iexact Hcr
    unfold atAxr; iexact Har
  iintro ⟨HO, Hl, Har⟩
  iapply HQ
  isplitl [HO]; · iexact HO
  isplitl [Hr Hl]
  · iapply (rows_all X W c)
    isplitl [Hr] <;> iassumption
  unfold atAxs atAxr
  isplitl [Has] <;> iassumption

theorem wp_maxima (w : FVec F S128 .f32) (Q : PUnit → sProp 𝕄) :
    iprop(ctx X W κ ∗ owesE c (oAx c 1) ∗ outAt c (res X W c) ∗ rowAt 0 c fullShare w ∗ targets c ∗ axDuties c ∗ axCreds c ∗ atAxs c 0 ∗ atAxr c 0)
      ⊢ iprop((iprop(owesE c 0 ∗ outAt c (fin X W c)
          ∗ ((aM : Memref sig .tc .vmem S16x128 .f32).view.loc (c : Thread nD τ) ↦{fullShare} rowsBuf (rowVal X W c)) ∗ atAxs c 1 ∗ atAxr c 1) -∗ Q ⟨⟩)
        -∗ wpc c (ownMax >>= fun _ => ((seqN fun r : Fin 15 => sendMax r.succ (tgtA c r)) >>= fun _ => (seqN fun r : Fin 15 => waitMaxSent r.succ) >>= fun _ =>
          seqN fun r : Fin 15 => waitMaxLanded r.succ) >>= fun _ => quant) Q) := by
  unfold wpc
  rw [wp_bind]
  iintro ⟨#Hc, HO, Ho, Hr, H⟩ HQ
  iapply (wp_ownMax X W c w) $$ [Ho Hr]
  · isplitl [Ho] <;> iassumption
  iintro ⟨Ho, Hr⟩
  rw [wp_bind]
  iapply (wp_exchangeMax X W κ c) $$ [HO Hr H]
  · isplitr; · iexact Hc
    isplitl [HO]; · iexact HO
    isplitl [Hr]; · iexact Hr
    iexact H
  iintro ⟨HO, Ha, H⟩
  iapply (wp_quant X W c) $$ [Ho Ha]
  · isplitl [Ho] <;> iassumption
  iintro ⟨Ho, Ha⟩
  iapply HQ
  isplitl [HO]; · iexact HO
  isplitl [Ho]; · iexact Ho
  isplitl [Ha] <;> iassumption

end Cert.Maxima
-- ==== Proof.Whole.lean ====
module

public import proofs.«01_k».proof.Proof.Maxima

@[expose] public section

noncomputable section

/-! Before the first step and after the last: the buffers split and joined, the semaphores handed out and closed. -/

namespace Cert.Whole

open Cert.KernelIdeal Cert.KernelIdeal.Gen Cert.Steps Cert.Contents Cert.Ring Cert.Sched Cert.Cells Cert.Pieces Cert.Rows Cert.RingStep Cert.Loop Cert.Maxima
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : XT F) (W : WT F) (κ : GSem nD τ sig → ℕ) (c : Dev nD)

/-! ## Buffers -/

/-- The elements of slot `q`, in the whole buffer. -/
abbrev slotSet (M : Memref sig .tc .vmem S2x256x4096 .f32) (q : Fin 2) : Finset (Idx (M.view.loc (c : Thread nD τ))) := (slotM M q).view.set

theorem slots_disjoint (M : Memref sig .tc .vmem S2x256x4096 .f32) : Disjoint (slotSet c M 0) (slotSet c M 1) := by
  rw [Finset.disjoint_left]
  intro i hi hi'
  obtain ⟨x, -, rfl⟩ := Finset.mem_map.mp hi
  obtain ⟨x', -, e⟩ := Finset.mem_map.mp hi'
  have e' : (ix3 (1 : Fin 2) (x' 0) (x' 1) : S2x256x4096.Idx) = ix3 (0 : Fin 2) (x 0) (x 1) :=
    M.view.emb.injective ((slot_emb M 1 x').symm.trans (e.trans (slot_emb M 0 x)))
  exact absurd (congrFun e' 0) (by show ¬ ((1 : Fin 2) = 0); decide)

theorem slots_cover (ρ : Fin 2) : slotSet c (Ring.M ρ) 0 ∪ slotSet c (Ring.M ρ) 1 = Finset.univ := by
  have h : ∀ (M : Memref sig .tc .vmem S2x256x4096 .f32), Function.Surjective M.view.emb → slotSet c M 0 ∪ slotSet c M 1 = Finset.univ := by
    intro M hM
    ext i
    simp only [Finset.mem_union, Finset.mem_univ, iff_true]
    obtain ⟨y, rfl⟩ := hM i
    have hy : y = ix3 (y 0) (y 1) (y 2) := eq_ix3 y
    rcases (show ∀ q : Fin 2, q = 0 ∨ q = 1 by decide) (y 0) with h | h
    · refine .inl (Finset.mem_map.mpr ⟨ix2 (y 1) (y 2), Finset.mem_univ _, (slot_emb M 0 _).trans (congrArg M.view.emb ?_)⟩)
      rw [hy, h]; rfl
    · refine .inr (Finset.mem_map.mpr ⟨ix2 (y 1) (y 2), Finset.mem_univ _, (slot_emb M 1 _).trans (congrArg M.view.emb ?_)⟩)
      rw [hy, h]; rfl
  match ρ with
  | 0 => exact h lM fun i => ⟨i, rfl⟩
  | 1 => exact h rM fun i => ⟨i, rfl⟩

/-- A whole communication buffer is its two slots. -/
theorem slots_split (ρ : Fin 2) : (iprop(∃ f, (Ring.M ρ).view.loc (c : Thread nD τ) ↦{fullShare} f) : sProp 𝕄) ⊢ iprop(slotAny ρ 0 c ∗ slotAny ρ 1 c) := by
  unfold slotAny
  iintro ⟨%f, H⟩
  ihave ⟨H0, H1⟩ := (show ((Ring.M ρ).view.loc (c : Thread nD τ) ↦{fullShare} f : sProp 𝕄) ⊢ iprop(((Ring.M ρ).view.loc (c : Thread nD τ) ↦[slotSet c (Ring.M ρ) 0]{fullShare} f)
      ∗ ((Ring.M ρ).view.loc (c : Thread nD τ) ↦[slotSet c (Ring.M ρ) 1]{fullShare} f)) from by
    rw [← slots_cover c ρ]; exact (pointsTo_union (slots_disjoint c (Ring.M ρ))).1) $$ H
  isplitl [H0]
  · iapply (slotAt_any (Ring.M ρ) 0 c f); iexact H0
  · iapply (slotAt_any (Ring.M ρ) 1 c f); iexact H1
theorem slots_join (ρ : Fin 2) (v v' : Fin 2 → FVec F S256x2048 .f32) :
    iprop(slotAt (Ring.M ρ) 0 c v ∗ slotAt (Ring.M ρ) 1 c v') ⊢ (iprop(∃ f, (Ring.M ρ).view.loc (c : Thread nD τ) ↦{fullShare} f) : sProp 𝕄) := by
  unfold slotAt
  refine (pointsTo_join (slots_disjoint c (Ring.M ρ))).trans ?_
  rw [slots_cover]
  iintro H; iexists _; iexact H

/-- The buffer of maxima is its sixteen rows. -/
theorem rows_split (f : S16x128.Idx → Elt F .f32) : (((aM : Memref sig .tc .vmem S16x128 .f32).view.loc (c : Thread nD τ) ↦{fullShare} f) : sProp 𝕄)
    = iprop(rowAt 0 c fullShare (fun x => f (ix2 (0 : Fin 16) (x 0))) ∗ bigSep Finset.univ fun i : Fin 15 => rowAt i.succ c fullShare (fun x => f (ix2 i.succ (x 0)))) := by
  have h : rowsBuf (fun (r : Fin 16) (x : S128.Idx) => f (ix2 r (x 0))) = f := funext fun i => congrArg f (eq_ix2 i).symm
  refine Eq.trans ?_ (univ_succ (n := 15) fun r => rowAt r c fullShare (fun x => f (ix2 r (x 0))))
  rw [rows_join c fullShare fun (r : Fin 16) (x : S128.Idx) => f (ix2 r (x 0)), h]

/-! ## Semaphores -/

theorem bigK_eq (Φ : K → sProp 𝕄) : bigSep Finset.univ Φ
    = iprop((Φ (kCred 0) ∗ Φ (kCred 1)) ∗ ((Φ (kSend 0 0) ∗ Φ (kSend 0 1)) ∗ (Φ (kSend 1 0) ∗ Φ (kSend 1 1)))
      ∗ ((Φ (kRecv 0 0) ∗ Φ (kRecv 0 1)) ∗ (Φ (kRecv 1 0) ∗ Φ (kRecv 1 1)))
      ∗ (Φ (kAxs 0) ∗ bigSep Finset.univ fun i : Fin 15 => Φ (kAxs i.succ)) ∗ (Φ (kAxr 0) ∗ bigSep Finset.univ fun i : Fin 15 => Φ (kAxr i.succ))) := by
  rw [bigSep_univ_sum, bigSep_univ_sum, bigSep_univ_sum, bigSep_univ_sum, bigSep_univ_prod, bigSep_univ_prod]
  simp only [bigSep_fin_two]
  rw [univ_succ (n := 15) fun a => Φ (kAxs a), univ_succ (n := 15) fun a => Φ (kAxr a)]
  rfl

/-- Round 0 of each of the own semaphores reached. -/
def opened : sProp 𝕄 := bigSep Finset.univ fun k : K => reached ER (cell k c) 0
instance opened_persistent : BI.Persistent (opened (F := F) c) := by unfold opened; infer_instance
theorem opened_at (k : K) : opened (F := F) c ⊢ reached ER (cell k c) 0 := by
  unfold opened; exact bigSep_elim (Finset.mem_univ k)

/-- The positions at the own semaphores. -/
def atAll (R : K → ℕ) : sProp 𝕄 := bigSep Finset.univ fun k : K => atPos ER (cell k c) (R k) ∅ 0

/-- The rounds of a semaphore. -/
def endPos : K → ℕ
  | kCred _ => 14
  | kSend _ p => 8 - p.val
  | kRecv _ q => 7 + q.val
  | kAxs j => if j = 0 then 0 else 1
  | kAxr j => if j = 0 then 0 else 1
theorem end_pos (k : K) (r : ℕ) (h : endPos k ≤ r) : ¬ act k r := by
  match k with
  | kCred ρ => exact Nat.not_lt.mpr h
  | kSend ρ p => have h' : 8 - p.val ≤ r := h; show ¬ (2 * r + p.val < 15); omega
  | kRecv ρ q => have h' : 7 + q.val ≤ r := h; show ¬ (2 * r + 1 - q.val < 15); omega
  | kAxs j =>
    rintro ⟨h1, h2⟩
    have h' : (if j = 0 then 0 else 1) ≤ r := h
    rw [if_neg h2] at h'; omega
  | kAxr j =>
    rintro ⟨h1, h2⟩
    have h' : (if j = 0 then 0 else 1) ≤ r := h
    rw [if_neg h2] at h'; omega

/-- Every own semaphore closed. -/
theorem close_all : iprop(ctx X W κ ∗ atAll c endPos) ⊢ (|={Set.univ}=> bigSep Finset.univ fun k : K => semVal (cell k c) 0 : sProp 𝕄) := by
  unfold atAll
  exact (bigSep_with_persistent fun k _ => close_cell X W κ c k (endPos k) (end_pos k)).trans (bigSep_fupd _ _)

/-! ## The start of a ring -/

/-- The positions of one ring's semaphores. -/
def ringAt (ρ : Fin 2) (R : K → ℕ) : sProp 𝕄 :=
  iprop(atPos ER (cell (kSend ρ 0) c) (R (kSend ρ 0)) ∅ 0 ∗ atPos ER (cell (kSend ρ 1) c) (R (kSend ρ 1)) ∅ 0
    ∗ atPos ER (cell (kRecv ρ 0) c) (R (kRecv ρ 0)) ∅ 0 ∗ atPos ER (cell (kRecv ρ 1) c) (R (kRecv ρ 1)) ∅ 0 ∗ atPos ER (cell (kCred ρ) c) (R (kCred ρ)) ∅ 0)
/-- The duties and credits of one ring. -/
def ringToks (ρ : Fin 2) : sProp 𝕄 := iprop(bigSep (Finset.Ico 0 15) (tk ρ c) ∗ bigSep (Finset.Ico 0 14) (tkc ρ c))

theorem got_none (ρ : Fin 2) : got (F := F) ρ c 0 = iprop(emp) := by
  unfold got; split
  · rw [show Finset.Ico 1 (0 + 1) = (∅ : Finset ℕ) from rfl]; exact bigSep_empty
  · rfl

theorem st_zero (ρ : Fin 2) : iprop(opened c ∗ slotAt (M ρ) 0 c (acc X W ρ 0 c) ∗ barPay ρ c ∗ travOn ρ c 0 ∗ ringToks c ρ ∗ ringAt c ρ fun _ => 0) ⊢ st X W ρ c 0 := by
  unfold st keep ringAt ringToks barPay
  rw [got_none, show par 0 = 0 from rfl, show par (0 + 1) = 1 from rfl, bigSep_Ico_succ_bot (show 0 < 15 by decide)]
  iintro ⟨#HR, Hs, ⟨Hd, Hrd⟩, Ht, ⟨⟨Htk, Htk'⟩, Htc⟩, Ha0, Ha1, Hb0, Hb1, Hc⟩
  isplitl [Hs]; · iexact Hs
  isplitl [Hd]; · iexact Hd
  isplitr; · iapply (opened_at c (kSend ρ 0)); iexact HR
  isplitl [Hrd]; · iexact Hrd
  isplitr; · iapply (opened_at c (kCred ρ)); iexact HR
  isplitl [Ht]; · iexact Ht
  isplitl [Htk]; · iexact Htk
  isplitl [Ha0]; · iexact Ha0
  isplitl [Hb1]; · iexact Hb1
  isplitr; · iapply (opened_at c (kRecv ρ 0)); iexact HR
  isplitl [Ha1]
  · isplitl [Ha1]; · iexact Ha1
    iapply (opened_at c (kSend ρ 1)); iexact HR
  isplitl [Hb0]; · iexact Hb0
  isplitl [Hc]; · iexact Hc
  isplitl [Htk']; · iexact Htk'
  isplitl [Htc]; · iexact Htc
  iempintro

/-- The own rows, ready to travel. -/
theorem trav_own (w : Fin 15 → FVec F S128 .f32) : iprop(opened c ∗ bigSep Finset.univ fun i : Fin 15 => rowAt i.succ c fullShare (w i)) ⊢ travOn 1 c 0 := by
  have h : (Finset.Ico (0 + 1) 16 : Finset ℕ) = Finset.univ.map ⟨fun i : Fin 15 => i.succ.val, fun _ _ h => Fin.succ_injective _ (Fin.ext h)⟩ := by decide
  unfold travOn trav
  rw [if_pos rfl, h, bigSep_map, rt_zero]
  refine bigSep_with_persistent fun i _ => ?_
  show _ ⊢ item i.succ.val c
  unfold item
  rw [kk_val]
  iintro ⟨#HR, H⟩
  isplitl [H]; · iexists _; iexact H
  iapply (opened_at c (kAxr i.succ)); iexact HR

/-! ## The end of a ring -/

theorem held_end (ρ : Fin 2) (v : Fin 2 → FVec F S256x2048 .f32) : iprop(slotAt (M ρ) (par 15) c v ∗ held X W ρ c 14)
    ⊢ iprop((∃ f, (Ring.M ρ).view.loc (c : Thread nD τ) ↦{fullShare} f) ∗ ringAt c ρ endPos ∗ travOn ρ c 15 ∗ got ρ c 15) := by
  unfold held past keep ringAt
  rw [show par 15 = 1 from rfl, show par 14 = 0 from rfl]
  iintro ⟨Hs, Hs', ⟨Ha0, -, Hb1, -⟩, -, Ht, -, ⟨Ha1, -⟩, Hb0, Hc, -, -, Hg⟩
  isplitl [Hs Hs']
  · iapply (slots_join c ρ)
    isplitl [Hs'] <;> iassumption
  isplitl [Ha0 Ha1 Hb0 Hb1 Hc]
  · isplitl [Ha0]; · iexact Ha0
    isplitl [Ha1]; · iexact Ha1
    isplitl [Hb0]; · iexact Hb0
    isplitl [Hb1]; · iexact Hb1
    iexact Hc
  iapply (trav_step ρ c 14 (by decide))
  isplitl [Ht] <;> iassumption

/-- The positions at all own semaphores, from those of the rings and of the maxima. -/
theorem atAll_eq (R : K → ℕ) : atAll (F := F) c R ⊢ iprop(ringAt c 0 R ∗ ringAt c 1 R
    ∗ (atPos ER (cell (kAxs 0) c) (R (kAxs 0)) ∅ 0 ∗ bigSep Finset.univ fun i : Fin 15 => atPos ER (cell (kAxs i.succ) c) (R (kAxs i.succ)) ∅ 0)
    ∗ (atPos ER (cell (kAxr 0) c) (R (kAxr 0)) ∅ 0 ∗ bigSep Finset.univ fun i : Fin 15 => atPos ER (cell (kAxr i.succ) c) (R (kAxr i.succ)) ∅ 0)) := by
  unfold atAll ringAt
  rw [bigK_eq]
  iintro ⟨⟨H1, H2⟩, ⟨⟨H3, H4⟩, ⟨H5, H6⟩⟩, ⟨⟨H7, H8⟩, ⟨H9, H10⟩⟩, H⟩
  isplitl [H1 H3 H4 H7 H8]
  · isplitl [H3]; · iexact H3
    isplitl [H4]; · iexact H4
    isplitl [H7]; · iexact H7
    isplitl [H8] <;> iassumption
  isplitl [H2 H5 H6 H9 H10]
  · isplitl [H5]; · iexact H5
    isplitl [H6]; · iexact H6
    isplitl [H9]; · iexact H9
    isplitl [H10] <;> iassumption
  iexact H
theorem atAll_of (R : K → ℕ) : iprop(ringAt c 0 R ∗ ringAt c 1 R
    ∗ (atPos ER (cell (kAxs 0) c) (R (kAxs 0)) ∅ 0 ∗ bigSep Finset.univ fun i : Fin 15 => atPos ER (cell (kAxs i.succ) c) (R (kAxs i.succ)) ∅ 0)
    ∗ (atPos ER (cell (kAxr 0) c) (R (kAxr 0)) ∅ 0 ∗ bigSep Finset.univ fun i : Fin 15 => atPos ER (cell (kAxr i.succ) c) (R (kAxr i.succ)) ∅ 0)) ⊢ atAll (F := F) c R := by
  unfold atAll ringAt
  rw [bigK_eq]
  iintro ⟨⟨H3, H4, H7, H8, H1⟩, ⟨H5, H6, H9, H10, H2⟩, H⟩
  isplitl [H1 H2]; · isplitl [H1] <;> iassumption
  isplitl [H3 H4 H5 H6]
  · isplitl [H3 H4]; · isplitl [H3] <;> iassumption
    isplitl [H5] <;> iassumption
  isplitl [H7 H8 H9 H10]
  · isplitl [H7 H8]; · isplitl [H7] <;> iassumption
    isplitl [H9] <;> iassumption
  iexact H
theorem one_succ (i : Fin 15) : (if i.succ = 0 then 0 else 1) = 1 := if_neg (Fin.succ_ne_zero i)
theorem atAxs_end : atAxs (F := F) c 1 = bigSep Finset.univ fun i : Fin 15 => atPos ER (cell (kAxs i.succ) c) (endPos (kAxs i.succ)) ∅ 0 := by
  unfold atAxs
  exact bigSep_congr fun i _ => by rw [show endPos (kAxs i.succ) = 1 from one_succ i]
theorem atAxr_end : atAxr (F := F) c 1 = bigSep Finset.univ fun i : Fin 15 => atPos ER (cell (kAxr i.succ) c) (endPos (kAxr i.succ)) ∅ 0 := by
  unfold atAxr
  exact bigSep_congr fun i _ => by rw [show endPos (kAxr i.succ) = 1 from one_succ i]

end Cert.Whole
-- ==== Proof.Body.lean ====
module

public import proofs.«01_k».proof.Proof.Whole

@[expose] public section

noncomputable section

/-! The whole body of the kernel on one device. -/

namespace Cert.Body

open Cert.KernelIdeal Cert.KernelIdeal.Gen Cert.Steps Cert.Contents Cert.Ring Cert.Sched Cert.Cells Cert.Pieces Cert.Rows Cert.RingStep Cert.Loop Cert.Maxima Cert.Whole
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : XT F) (W : WT F) (κ : GSem nD τ sig → ℕ) (c : Dev nD)

/-- What a device owes at the start: its copies, its grants, and one signal to each neighbour's barrier. -/
def owed : CellTallies nD τ sig ℕ := (ow c 0 0 0 0 1 + tallyAt (barC (up 1 c)) 1 1) + tallyAt (barC (up 0 c)) 1 1

/-- The duties of the fifteen copies of the own maximum. -/
def axToks : sProp 𝕄 := bigSep Finset.univ fun i : Fin 15 =>
  iprop(dutyTok ER (cell (kAxs i.succ) c) 0 0 ∗ dutyTok ER (cell (kAxr i.succ) (rt c i.succ.val)) 0 0)
theorem axDuties_of : iprop(opened c ∗ axToks (F := F) c) ⊢ axDuties c := by
  unfold axToks axDuties
  refine bigSep_with_persistent fun i _ => ?_
  iintro ⟨#HR, H, H'⟩
  isplitl [H]; · iexact H
  isplitr; · iapply (opened_at c (kAxs i.succ)); iexact HR
  iexact H'

/-- The three scratch buffers, whatever they hold. -/
def scratch : sProp 𝕄 :=
  iprop((∃ f, (Ring.M 0).view.loc (c : Thread nD τ) ↦{fullShare} f) ∗ (∃ f, (Ring.M 1).view.loc (c : Thread nD τ) ↦{fullShare} f)
    ∗ (∃ f, (aM : Memref sig .tc .vmem S16x128 .f32).view.loc (c : Thread nD τ) ↦{fullShare} f))

/-- The duties a device holds at the start, and its credits that no other resource of it carries. -/
def toks : sProp 𝕄 :=
  iprop((dutyTok ER (barC (up 0 c)) 0 0 ∗ dutyTok ER (barC (up 1 c)) 0 1) ∗ cred (tallyAt (barC c) 1 2) ∗ ringToks c 0 ∗ ringToks c 1 ∗ axToks c ∗ axCreds c)
/-- The semaphores' state at the start. -/
def opens : sProp 𝕄 := iprop(opened c ∗ atPos ER (barC c) 0 ∅ 0 ∗ atAll c fun _ => 0)

theorem wp_barrier (Q : PUnit → sProp 𝕄) :
    iprop(ctx X W κ ∗ owesE c (owed c) ∗ (dutyTok ER (barC (up 0 c)) 0 0 ∗ dutyTok ER (barC (up 1 c)) 0 1) ∗ cred (tallyAt (barC c) 1 2)
        ∗ opened c ∗ atPos ER (barC c) 0 ∅ 0 ∗ slotAny 0 1 c ∗ slotAny 1 1 c)
      ⊢ iprop((iprop(owesE c (ow c 0 0 0 0 1) ∗ atPos ER (barC c) 1 ∅ 0 ∗ barPay 0 c ∗ barPay 1 c) -∗ Q ⟨⟩)
        -∗ wpc c (barrier (up 0 c) (up 1 c)) Q) := by
  have hpay : ∀ ρ : Fin 2, iprop(opened c ∗ slotAny ρ 1 c) ⊢ (barPay ρ (up ρ c) : sProp 𝕄) := fun ρ => by
    unfold barPay
    rw [dn_up]
    iintro ⟨#HR, H⟩
    isplitl [H]; · iexact H
    iapply (opened_at c (kRecv ρ 1)); iexact HR
  unfold barrier wpc semSignalWord semWaitWord
  iintro ⟨#Hc, HO, ⟨Ht0, Ht1⟩, Hcr, #HR, Hat, Hs0, Hs1⟩ HQ
  rw [wp_bind]
  iapply (wp_signalBar X W κ c (up 0 c) 0 (ow c 0 0 0 0 1 + tallyAt (barC (up 1 c)) 1 1) rfl) $$ [HO Ht0 Hs0]
  · isplitr; · iexact Hc
    isplitl [HO]; · iexact HO
    isplitl [Ht0]; · iexact Ht0
    iapply (hpay 0)
    isplitr; · iexact HR
    iexact Hs0
  iintro HO
  rw [wp_ret, wp_bind]
  imodintro
  iapply (wp_signalBar X W κ c (up 1 c) 1 (ow c 0 0 0 0 1) rfl) $$ [HO Ht1 Hs1]
  · isplitr; · iexact Hc
    isplitl [HO]; · iexact HO
    isplitl [Ht1]; · iexact Ht1
    iapply (hpay 1)
    isplitr; · iexact HR
    iexact Hs1
  iintro HO
  rw [wp_ret]
  imodintro
  iapply (wp_waitBar X W κ c (hi_ow c 0 0 0 0 1 1 (by decide) (by decide) (by decide) (by decide) (by decide))) $$ [HO Hcr Hat]
  · isplitr; · iexact Hc
    isplitl [Hat]; · iexact Hat
    isplitl [Hcr] <;> iassumption
  iintro H
  rw [wp_ret]
  imodintro
  iapply HQ; iexact H

/-- The body with its device's number put in. -/
theorem body_at (Q : PUnit → sProp 𝕄) : wpc c Steps.body Q
    = wpc c (barrier (up 0 c) (up 1 c) >>= fun _ => seeds c >>= fun _ =>
        (seqN fun s : Fin 14 => step c s.castSucc (tgtR c s.castSucc) (tgtL c s.castSucc) (grL c s) (grR c s)) >>= fun _ =>
        lastStep c (tgtR c 14) (tgtL c 14) >>= fun _ =>
        ownMax >>= fun _ => ((seqN fun r : Fin 15 => sendMax r.succ (tgtA c r)) >>= fun _ => (seqN fun r : Fin 15 => waitMaxSent r.succ) >>= fun _ =>
          seqN fun r : Fin 15 => waitMaxLanded r.succ) >>= fun _ => quant) Q := by
  rw [← dev1_eq c, ← dev2_eq c]
  simp only [bind_assoc]
  unfold Steps.body wpc
  rw [wp_bind]
  unfold Prog.lift
  rw [wp_deviceId, wp_ret, fupd_wp_eq]

/-- The body: it ends with the device's block of the result, everything else given back. -/
theorem wp_body (v : Fin 4 → FVec F S256x2048 .f32) (Q : PUnit → sProp 𝕄) :
    iprop(ctx X W κ ∗ owesE c (owed c) ∗ toks c ∗ opens c ∗ stg X W c v ∗ scratch c)
      ⊢ iprop((iprop(owesE c 0 ∗ stg X W c (fin X W c) ∗ scratch c ∗ (bigSep Finset.univ fun k : K => semVal (cell k c) 0) ∗ semVal (barC c) 0) -∗ Q ⟨⟩)
        -∗ wpc c Steps.body Q) := by
  rw [body_at]
  unfold toks opens scratch
  iintro ⟨#Hc, HO, ⟨Hbt, Hbc, Ht0, Ht1, Hat, Hac⟩, ⟨#HR, Hb, Hk⟩, Hg, ⟨Hl, Hr, ⟨%w, Ha⟩⟩⟩ HQ
  ihave ⟨Hl0, Hl1⟩ := (slots_split c 0) $$ Hl
  ihave ⟨Hr0, Hr1⟩ := (slots_split c 1) $$ Hr
  ihave ⟨Ha0, Ha⟩ := (Entails.of_eq (rows_split c w)) $$ Ha
  ihave ⟨Hk0, Hk1, ⟨Hxs0, Hxs⟩, ⟨Hxr0, Hxr⟩⟩ := (atAll_eq c fun _ => 0) $$ Hk
  unfold wpc
  rw [wp_bind]
  iapply (wp_barrier X W κ c) $$ [HO Hbt Hbc Hb Hl1 Hr1]
  · isplitr; · iexact Hc
    isplitl [HO]; · iexact HO
    isplitl [Hbt]; · iexact Hbt
    isplitl [Hbc]; · iexact Hbc
    isplitr; · iexact HR
    isplitl [Hb]; · iexact Hb
    isplitl [Hl1] <;> iassumption
  iintro ⟨HO, Hb, Hp0, Hp1⟩
  rw [wp_bind]
  unfold slotAny
  icases Hl0 with ⟨%u, Hl0⟩
  icases Hr0 with ⟨%u', Hr0⟩
  iapply (wp_seeds X W c v u u') $$ [Hg Hl0 Hr0]
  · isplitl [Hg]; · iexact Hg
    isplitl [Hl0] <;> iassumption
  iintro ⟨Hg, Hl0, Hr0⟩
  rw [wp_bind]
  iapply (wp_steps X W κ c) $$ [HO Hg Hl0 Hr0 Hp0 Hp1 Hk0 Hk1 Ht0 Ht1 Ha]
  · unfold before
    isplitr; · iexact Hc
    isplitl [HO]; · iexact HO
    isplitl [Hg]; · iexists _; iexact Hg
    isplitl [Hl0 Hp0 Hk0 Ht0]
    · iapply (st_zero X W c 0)
      isplitr; · iexact HR
      isplitl [Hl0]; · iexact Hl0
      isplitl [Hp0]; · iexact Hp0
      isplitr; · unfold travOn; rw [if_neg (by decide)]; iempintro
      isplitl [Ht0] <;> iassumption
    · iapply (st_zero X W c 1)
      isplitr; · iexact HR
      isplitl [Hr0]; · iexact Hr0
      isplitl [Hp1]; · iexact Hp1
      isplitl [Ha]
      · iapply (trav_own c fun i x => w (ix2 i.succ (x 0)))
        isplitr; · iexact HR
        iexact Ha
      isplitl [Ht1] <;> iassumption
  iintro Hbf
  rw [wp_bind]
  iapply (wp_lastStep X W κ c) $$ Hbf
  unfold after stg
  iintro ⟨HO, ⟨Hx, Hw, Ho⟩, H0, H1⟩
  ihave ⟨Hl, Hk0, -, -⟩ := (held_end X W c 0 _) $$ H0
  ihave ⟨Hr, Hk1, -, Hgot⟩ := (held_end X W c 1 _) $$ H1
  iapply (wp_fupd _ _ _ _)
  iapply (wp_maxima X W κ c _) $$ [HO Ho Ha0 Hgot Hat Hac Hxs Hxr]
  · isplitr; · iexact Hc
    isplitl [HO]; · iexact HO
    isplitl [Ho]; · iexact Ho
    isplitl [Ha0]; · iexact Ha0
    isplitl [Hgot]; · iapply (Entails.of_eq (got_all c)); iexact Hgot
    isplitl [Hat]
    · iapply (axDuties_of c)
      isplitr; · iexact HR
      iexact Hat
    isplitl [Hac]; · iexact Hac
    isplitl [Hxs]; · unfold atAxs; iexact Hxs
    unfold atAxr; iexact Hxr
  iintro ⟨HO, Ho, Ha, Hxs, Hxr⟩
  ihave Hk := (atAll_of c endPos) $$ [Hk0 Hk1 Hxs0 Hxs Hxr0 Hxr]
  · rw [← atAxs_end, ← atAxr_end]
    isplitl [Hk0]; · iexact Hk0
    isplitl [Hk1]; · iexact Hk1
    isplitl [Hxs0 Hxs]
    · isplitl [Hxs0]; · iexact Hxs0
      iexact Hxs
    isplitl [Hxr0]; · iexact Hxr0
    iexact Hxr
  imod (close_all X W κ c) $$ [Hk] with Hk
  · isplitr; · iexact Hc
    iexact Hk
  imod (close_bar X W κ c) $$ [Hb] with Hb
  · isplitr; · iexact Hc
    iexact Hb
  imodintro
  iapply HQ
  isplitl [HO]; · iexact HO
  isplitl [Hx Hw Ho]
  · isplitl [Hx]; · iexact Hx
    isplitl [Hw]; · iexact Hw
    iexact Ho
  isplitl [Hl Hr Ha]
  · isplitl [Hl]; · iexact Hl
    isplitl [Hr]; · iexact Hr
    iexists _; iexact Ha
  isplitl [Hk] <;> iassumption

end Cert.Body
-- ==== Proof.Region.lean ====
module

public import proofs.«01_k».proof.Proof.BodyEq
public import proofs.«01_k».proof.Proof.Body
public import proofs.«01_k».proof.Proof.Gen.KernelIdeal.Frame
public import proofs.«01_k».proof.Proof.Gen.KernelIdeal.Points
public import Idealize.ShloMosaic.Lib.Pipeline.RegionTalk
public import Idealize.ShloMosaic.Lib.Pipeline.ValueKit

@[expose] public section

noncomputable section

/-! The `pallas_call` as a pipeline of one point: what its windows hold, what its body is shown to do. -/

namespace Cert.Region

open Cert.KernelIdeal Cert.KernelIdeal.Gen Cert.Steps Cert.Contents Cert.Ring Cert.Sched Cert.Cells Cert.Pieces Cert.Rows Cert.RingStep Cert.Loop Cert.Maxima Cert.Whole Cert.Body
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (c : Dev nD)

/-- The two arrays the call reads, as each device has them when it starts. -/
def xin : XT F := fun c => iblk m c 0 t0_0
def win : WT F := fun c => iblk m c 1 t0_0
/-- The block of the result a device is shown to end with. -/
def out (c : Dev nD) : S256x8192.Idx → Elt F .f32 := blocks (fin (xin m) (win m) c)

/-- The records, the semaphores' state and the duties a device enters the body with. -/
def Xk : sProp 𝕄 := iprop((∃ κ, ctx (xin m) (win m) κ) ∗ toks c ∗ opens c)
/-- The kernel's own semaphores, all at zero. -/
def own0 : sProp 𝕄 := bigSep Finset.univ fun k : K => semVal (cell k c) 0

/-- What a device holds before the body and after it, beside what the windows stage. -/
def inv (n : ℕ) : sProp 𝕄 := if n = 0 then iprop(Xk m c ∗ scratch c ∗ ∃ r, prngReg c r)
  else iprop(semVal (barC c) 0 ∗ own0 c ∗ scratch c ∗ ∃ r, prngReg c r)

def dat (c : Dev nD) : Dat τ (Elt F) ℕ ℕ UU ℕ cfg0 c where
  A w := V m c (Pipeline.arrRef spec0 w)
  after := fun
    | 0 => fun _ => xin m c
    | 1 => fun _ => win m c
    | 2 => fun _ => out m c
    | ⟨_ + 3, h⟩ => absurd h (Nat.not_lt.2 (Nat.le_add_left _ _))
  Φ t := inv m c t.val
  q _ := fullShare
  owed t := if t.val = 0 then owed c else 0

theorem owed_first : (dat m c).owed t0_0.castSucc = owed c := by
  show (if (t0_0.castSucc : Fin (cfg0.N + 1)).val = 0 then owed c else 0) = owed c
  exact if_pos rfl
theorem owed_last : (dat m c).owed (Fin.last cfg0.N) = 0 := by
  show (if (Fin.last cfg0.N).val = 0 then owed c else 0) = 0
  rw [Fin.val_last, if_neg (by rw [show cfg0.N = 1 from N_0]; decide)]
theorem Phi_first : (dat m c).Φ t0_0.castSucc = iprop(Xk m c ∗ scratch c ∗ ∃ r, prngReg c r) := by
  show inv m c (t0_0.castSucc : Fin (cfg0.N + 1)).val = _
  exact if_pos rfl
theorem Phi_last : (dat m c).Φ (Fin.last cfg0.N) = iprop(semVal (barC c) 0 ∗ own0 c ∗ scratch c ∗ ∃ r, prngReg c r) := by
  show inv m c (Fin.last cfg0.N).val = _
  refine if_neg ?_
  rw [Fin.val_last, show cfg0.N = 1 from N_0]; decide

theorem owesAt_of (t : Fin (cfg0.N + 1)) (O : CellTallies nD τ sig ℕ) (h : (dat m c).owed t = O) :
    (owesE c O : sProp 𝕄) ⊢ (dat m c).owesAt 0 t := by
  unfold owesE Dat.owesAt Pipeline.owesWithin Dat.bound
  rw [h]
  iintro ⟨%Wt, HO⟩; iexists Wt
  isplitr; · ipureintro; exact fun _ _ => Or.inl trivial
  iexact HO
theorem of_owesAt (t : Fin (cfg0.N + 1)) (O : CellTallies nD τ sig ℕ) (h : (dat m c).owed t = O) :
    (dat m c).owesAt 0 t ⊢ (owesE c O : sProp 𝕄) := by
  unfold owesE Dat.owesAt Pipeline.owesWithin
  rw [h]
  iintro ⟨%Wt, -, HO⟩; iexists Wt; iexact HO

theorem before0 (d) : (dat m c).before 0 t0_0 d = xin m c :=
  ((dat m c).before_in_eq_fetched 0 rfl (fun _ => rfl) (fun _ _ _ => rfl) (fun t => by rw [fin_N0 t]; rfl) t0_0 d).trans rfl
theorem before1 (d) : (dat m c).before 1 t0_0 d = win m c :=
  ((dat m c).before_in_eq_fetched 1 rfl (fun _ => rfl) (fun _ _ _ => rfl) (fun t => by rw [fin_N0 t]; rfl) t0_0 d).trans rfl

/-- The staging buffers are the buffers the body's steps name. -/
theorem owns0 (f : S4096x768.Idx → Elt F .bf16) :
    (owns (c : Thread nD τ) ((cfg0.win 0).stage (cfg0.slots t0_0 0)) fullShare f : sProp 𝕄) = xAt c fullShare f :=
  owns_whole (c : Thread nD τ) cc0_stg0_0 fullShare f
theorem owns1 (f : S768x8192.Idx → Elt F .bf16) :
    (owns (c : Thread nD τ) ((cfg0.win 1).stage (cfg0.slots t0_0 1)) fullShare f : sProp 𝕄) = wAt c fullShare f :=
  owns_whole (c : Thread nD τ) cc0_stg1_0 fullShare f
theorem owns2_any (f : S256x8192.Idx → Elt F .f32) :
    (owns (c : Thread nD τ) ((cfg0.win 2).stage (cfg0.slots t0_0 2)) fullShare f : sProp 𝕄)
      = ((oM : Memref sig .tc .vmem S256x8192 .f32).view.loc (c : Thread nD τ) ↦{fullShare} f) :=
  owns_whole (c : Thread nD τ) cc0_stg2_0 fullShare f
theorem owns2 (v : Fin 4 → FVec F S256x2048 .f32) :
    (owns (c : Thread nD τ) ((cfg0.win 2).stage (cfg0.slots t0_0 2)) fullShare (blocks v) : sProp 𝕄) = outAt c v :=
  owns2_any c (blocks v)

theorem call_eq : defs₀ (F := F) .tc cfg0.body (cfg0.bodyArgs t0_0 (cfg0.slots t0_0)) = Steps.body := body_eq

theorem body_obligation : BodyObligation (dat m c) (defs₀ (F := F)) 𝒱₀ 0 Set.univ := fun t => by
  obtain rfl := fin_N0 t
  rw [bigSep_W0, bigSep_W0, call_eq]
  rw [show t0_0.succ = Fin.last cfg0.N from rfl, Phi_first, Phi_last]
  iintro ⟨⟨HX, Hs, Hp⟩, HO, ⟨%d0, H0⟩, ⟨%d1, H1⟩, ⟨%d2, H2⟩⟩
  ihave HO := (of_owesAt m c _ (owed c) (owed_first m c)) $$ HO
  unfold Xk
  icases HX with ⟨⟨%κ, Hc⟩, Ht, Ho⟩
  iapply (wp_body (xin m) (win m) κ c (fun b y => (dat m c).before 2 t0_0 d2 ((oR b).emb y)) _) $$ [Hc HO Ht Ho H0 H1 H2 Hs]
  · isplitl [Hc]; · iexact Hc
    isplitl [HO]; · iexact HO
    isplitl [Ht]; · iexact Ht
    isplitl [Ho]; · iexact Ho
    isplitr [Hs]
    · unfold stg
      isplitl [H0]; · rw [← owns0, before0]; iexact H0
      isplitl [H1]; · rw [← owns1, before1]; iexact H1
      rw [← owns2, blocks_parts]; iexact H2
    iexact Hs
  unfold stg
  iintro ⟨HO, ⟨Hx, Hw, Ho⟩, Hs, Hk, Hb⟩
  isplitl [Hb Hk Hs Hp]
  · isplitl [Hb]; · iexact Hb
    isplitl [Hk]; · unfold own0; iexact Hk
    isplitl [Hs]; · iexact Hs
    iexact Hp
  isplitl [HO]; · iapply (owesAt_of m c _ 0 (owed_last m c)); iexact HO
  isplitl [Hx]; · iapply (Entails.of_eq (owns0 c (xin m c)).symm); iexact Hx
  isplitl [Hw]; · iapply (Entails.of_eq (owns1 c (win m c)).symm); iexact Hw
  iapply (Entails.of_eq (owns2 c (fin (xin m) (win m) c)).symm); iexact Ho

end Cert.Region

end
-- ==== Proof.Deal.lean ====
module

public import proofs.«01_k».proof.Proof.Body

@[expose] public section

noncomputable section

/-! What the launch deals: each duty's token to the device that pays it, each credit to the device that waits. -/

namespace Cert.Deal

open Cert.KernelIdeal Cert.KernelIdeal.Gen Cert.Steps Cert.Contents Cert.Ring Cert.Sched Cert.Cells Cert.Pieces Cert.Rows Cert.RingStep Cert.Loop Cert.Maxima Cert.Whole Cert.Body
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Duties -/

/-- The duties of one device: a signal to each neighbour's barrier; the landing and the sending of each ring's copies; the
    grants; the sending and the landing of the maximum. -/
abbrev Du : Type := Fin 2 ⊕ ((Fin 2 × Fin 15) ⊕ ((Fin 2 × Fin 15) ⊕ ((Fin 2 × Fin 14) ⊕ (Fin 15 ⊕ Fin 15))))

/-- The semaphore a duty is paid at, its round, its number. -/
def duSem : Du → SemLoc sig
  | .inl _ => .reg barS
  | .inr (.inl (ρ, t)) => osem (kRecv ρ (par (t.val + 1)))
  | .inr (.inr (.inl (ρ, t))) => osem (kSend ρ (par t.val))
  | .inr (.inr (.inr (.inl (ρ, _)))) => osem (kCred ρ)
  | .inr (.inr (.inr (.inr (.inl i)))) => osem (kAxs i.succ)
  | .inr (.inr (.inr (.inr (.inr i)))) => osem (kAxr i.succ)
def duRound : Du → ℕ
  | .inl _ => 0
  | .inr (.inl (_, t)) => t.val / 2
  | .inr (.inr (.inl (_, t))) => t.val / 2
  | .inr (.inr (.inr (.inl (_, t)))) => t.val
  | .inr (.inr (.inr (.inr (.inl _)))) => 0
  | .inr (.inr (.inr (.inr (.inr _)))) => 0
def duNum : Du → Fin 2
  | .inl ρ => ρ
  | _ => 0
/-- The device a duty is paid at, by the device that pays it. -/
def duAt : Du → Dev nD ≃ Dev nD
  | .inl ρ => (around ρ).symm
  | .inr (.inl (ρ, _)) => around ρ
  | .inr (.inr (.inr (.inl (ρ, _)))) => (around ρ).symm
  | .inr (.inr (.inr (.inr (.inr i)))) => turn i.succ
  | _ => Equiv.refl _

/-- A duty, found again. -/
def duOf (sm : SemLoc sig) (r : ℕ) (d : Fin 2) : Du :=
  match which sm with
  | none => .inl d
  | some (kRecv ρ q) => .inr (.inl (ρ, ⟨(2 * r + 1 - q.val) % 15, Nat.mod_lt _ (by decide)⟩))
  | some (kSend ρ p) => .inr (.inr (.inl (ρ, ⟨(2 * r + p.val) % 15, Nat.mod_lt _ (by decide)⟩)))
  | some (kCred ρ) => .inr (.inr (.inr (.inl (ρ, ⟨r % 14, Nat.mod_lt _ (by decide)⟩))))
  | some (kAxs j) => .inr (.inr (.inr (.inr (.inl ⟨(j.val - 1) % 15, Nat.mod_lt _ (by decide)⟩))))
  | some (kAxr j) => .inr (.inr (.inr (.inr (.inr ⟨(j.val - 1) % 15, Nat.mod_lt _ (by decide)⟩))))
theorem which_bar : which (.reg barS) = none := by
  unfold which Function.partialInv
  exact dif_neg fun ⟨k, h⟩ => osem_ne_bar k h
theorem back_recv (t : ℕ) (h : t < 15) : (2 * (t / 2) + 1 - (t + 1) % 2) % 15 = t :=
  (show ∀ t : Fin 15, (2 * (t.val / 2) + 1 - (t.val + 1) % 2) % 15 = t.val by decide) ⟨t, h⟩
theorem back_send (t : ℕ) (h : t < 15) : (2 * (t / 2) + t % 2) % 15 = t := by omega
theorem duOf_eq (u : Du) : duOf (duSem u) (duRound u) (duNum u) = u := by
  unfold duOf
  match u with
  | .inl ρ => simp only [duSem, which_bar, duNum]
  | .inr (.inl (ρ, t)) =>
    simp only [duSem, which_osem, duRound]
    exact congrArg (fun t => Sum.inr (Sum.inl (ρ, t))) (Fin.ext (back_recv t.val t.isLt))
  | .inr (.inr (.inl (ρ, t))) =>
    simp only [duSem, which_osem, duRound]
    exact congrArg (fun t => Sum.inr (Sum.inr (Sum.inl (ρ, t)))) (Fin.ext (back_send t.val t.isLt))
  | .inr (.inr (.inr (.inl (ρ, t)))) =>
    simp only [duSem, which_osem, duRound]
    exact congrArg (fun t => Sum.inr (Sum.inr (Sum.inr (Sum.inl (ρ, t))))) (Fin.ext (by have := t.isLt; simp only; omega))
  | .inr (.inr (.inr (.inr (.inl i)))) =>
    simp only [duSem, which_osem]
    exact congrArg (fun t => Sum.inr (Sum.inr (Sum.inr (Sum.inr (Sum.inl t))))) (Fin.ext (by have := i.isLt; simp only [Fin.val_succ]; omega))
  | .inr (.inr (.inr (.inr (.inr i)))) =>
    simp only [duSem, which_osem]
    exact congrArg (fun t => Sum.inr (Sum.inr (Sum.inr (Sum.inr (Sum.inr t))))) (Fin.ext (by have := i.isLt; simp only [Fin.val_succ]; omega))

/-- Every duty of every device. -/
def duEmb : Dev nD × Du ↪ GSem nD τ sig × ℕ × Fin 2 :=
  ⟨fun cu => (((duAt cu.2 cu.1 : Thread nD τ), duSem cu.2), duRound cu.2, duNum cu.2), fun cu cu' h => by
    have hu : cu.2 = cu'.2 := (duOf_eq cu.2).symm.trans ((congrArg (fun x : GSem nD τ sig × ℕ × Fin 2 => duOf x.1.2 x.2.1 x.2.2) h).trans (duOf_eq cu'.2))
    have hc : duAt cu.2 cu.1 = duAt cu'.2 cu'.1 := congrArg (fun x : GSem nD τ sig × ℕ × Fin 2 => x.1.1.1) h
    rw [hu] at hc
    exact Prod.ext ((duAt cu'.2).injective hc) hu⟩
def allDuties : Finset (GSem nD τ sig × ℕ × Fin 2) := Finset.univ.map duEmb

theorem over_fin {n : ℕ} (Φ : ℕ → sProp 𝕄) : bigSep (Finset.Ico 0 n) Φ = bigSep Finset.univ fun t : Fin n => Φ t.val := by
  rw [show Finset.Ico 0 n = Finset.univ.map (Fin.valEmbedding (n := n)) from by ext i; simp [← Fin.exists_iff], bigSep_map]
  rfl

/-- The tokens of one device's duties. -/
def dealt (c : Dev nD) : sProp 𝕄 :=
  iprop((dutyTok ER (barC (up 0 c)) 0 0 ∗ dutyTok ER (barC (up 1 c)) 0 1)
    ∗ ((bigSep Finset.univ fun t : Fin 15 => dutyTok ER (cell (kRecv 0 (par (t.val + 1))) (dn 0 c)) (t.val / 2) 0)
      ∗ (bigSep Finset.univ fun t : Fin 15 => dutyTok ER (cell (kRecv 1 (par (t.val + 1))) (dn 1 c)) (t.val / 2) 0))
    ∗ ((bigSep Finset.univ fun t : Fin 15 => dutyTok ER (cell (kSend 0 (par t.val)) c) (t.val / 2) 0)
      ∗ (bigSep Finset.univ fun t : Fin 15 => dutyTok ER (cell (kSend 1 (par t.val)) c) (t.val / 2) 0))
    ∗ ((bigSep Finset.univ fun t : Fin 14 => dutyTok ER (cell (kCred 0) (up 0 c)) t.val 0)
      ∗ (bigSep Finset.univ fun t : Fin 14 => dutyTok ER (cell (kCred 1) (up 1 c)) t.val 0))
    ∗ (bigSep Finset.univ fun i : Fin 15 => dutyTok ER (cell (kAxs i.succ) c) 0 0)
    ∗ (bigSep Finset.univ fun i : Fin 15 => dutyTok ER (cell (kAxr i.succ) (rt c i.succ.val)) 0 0))

theorem duties_dealt : bigSep allDuties (fun x => (dutyTok ER x.1 x.2.1 x.2.2 : sProp 𝕄)) = bigSep Finset.univ fun c : Dev nD => dealt c := by
  unfold allDuties
  rw [bigSep_map, bigSep_univ_prod]
  refine bigSep_congr fun c _ => ?_
  rw [bigSep_univ_sum, bigSep_univ_sum, bigSep_univ_sum, bigSep_univ_sum, bigSep_univ_sum, bigSep_univ_prod, bigSep_univ_prod, bigSep_univ_prod]
  unfold dealt
  exact congrArg₂ _ (bigSep_fin_two _) (congrArg₂ _ (bigSep_fin_two _) (congrArg₂ _ (bigSep_fin_two _) (congrArg₂ _ (bigSep_fin_two _) rfl)))

/-! ## Credits -/

theorem around_sum (e : Dev nD ≃ Dev nD) (sm : SemLoc sig) (i n : ℕ) :
    (∑ d, tallyAt ((e d : Thread nD τ), sm) i n : CellTallies nD τ sig ℕ) = ∑ d : Dev nD, tallyAt ((d : Thread nD τ), sm) i n :=
  Equiv.sum_comp e fun d : Dev nD => (tallyAt ((d : Thread nD τ), sm) i n : CellTallies nD τ sig ℕ)
theorem at_own (sm : SemLoc sig) (i n : ℕ) (d : Dev nD) (g : GSem nD τ sig) (hg : (tallyAt ((d : Thread nD τ), sm) i n : CellTallies nD τ sig ℕ) g ≠ 0) :
    g.1 = (d : Thread nD τ) := by
  obtain ⟨j, hj⟩ := DFunLike.ne_iff.mp hg
  exact congrArg Prod.fst (Pipeline.tallyAt_pos (Nat.pos_of_ne_zero hj)).1
/-- A credit that each device is owed by one other. -/
theorem cred_one (e : Dev nD ≃ Dev nD) (sm : SemLoc sig) (i n : ℕ) (c : Dev nD) :
    (Pipeline.launchCred (fun d => tallyAt ((e d : Thread nD τ), sm) i n) c : sProp 𝕄) = cred (tallyAt ((c : Thread nD τ), sm) i n) :=
  Pipeline.launchCred_of_sum (fun d => tallyAt ((e d : Thread nD τ), sm) i n) (fun d => tallyAt ((d : Thread nD τ), sm) i n) (around_sum e sm i n)
    (at_own sm i n) c

theorem cred_ring (ρ : Fin 2) (c : Dev nD) : (Pipeline.launchCred (fun d => oRing ρ d 0) c : sProp 𝕄)
    = bigSep Finset.univ fun t : Fin 15 => cred (tallyAt (cell (kRecv ρ (par (t.val + 1))) c) (2 * t.val + 2) N) := by
  unfold oRing
  rw [Pipeline.launchCred_sum, over_fin]
  exact bigSep_congr fun t _ => cred_one (around ρ) _ _ _ c
theorem cred_grants (ρ : Fin 2) (c : Dev nD) : (Pipeline.launchCred (fun d => oCred ρ d 0) c : sProp 𝕄)
    = bigSep Finset.univ fun t : Fin 14 => cred (tallyAt (cell (kCred ρ) c) (2 * t.val + 3) 1) := by
  unfold oCred
  rw [Pipeline.launchCred_sum, over_fin]
  exact bigSep_congr fun t _ => cred_one (around ρ).symm _ _ _ c
theorem cred_ax (c : Dev nD) : (Pipeline.launchCred (fun d => oAx d 1) c : sProp 𝕄) = axCreds c := by
  have h : (Finset.Ico 1 16 : Finset ℕ) = Finset.univ.map ⟨fun i : Fin 15 => i.succ.val, fun _ _ h => Fin.succ_injective _ (Fin.ext h)⟩ := by decide
  unfold oAx axCreds
  rw [Pipeline.launchCred_sum, h, bigSep_map]
  refine bigSep_congr fun i _ => ?_
  show Pipeline.launchCred (fun d => tallyAt (cell (kAxr (kk i.succ.val)) (rt d i.succ.val)) 40 Nax) c = _
  rw [kk_val]
  exact cred_one (turn i.succ) _ _ _ c
theorem cred_bar (c : Dev nD) : iprop(cred (tallyAt (barC c) 1 1) ∗ cred (tallyAt (barC c) 1 1)) ⊢ (cred (tallyAt (barC c) 1 2) : sProp 𝕄) := by
  rw [show (tallyAt (barC c) 1 2 : CellTallies nD τ sig ℕ) = tallyAt (barC c) 1 1 + tallyAt (barC c) 1 1 from (tallyAt_add (barC c) 1 1 1).symm]
  exact (cred_add _ _).2

theorem cred_all (c : Dev nD) : (Pipeline.launchCred owed c : sProp 𝕄)
    = iprop(((((((bigSep Finset.univ fun t : Fin 15 => cred (tallyAt (cell (kRecv 0 (par (t.val + 1))) c) (2 * t.val + 2) N))
        ∗ (bigSep Finset.univ fun t : Fin 15 => cred (tallyAt (cell (kRecv 1 (par (t.val + 1))) c) (2 * t.val + 2) N)))
      ∗ (bigSep Finset.univ fun t : Fin 14 => cred (tallyAt (cell (kCred 0) c) (2 * t.val + 3) 1)))
      ∗ (bigSep Finset.univ fun t : Fin 14 => cred (tallyAt (cell (kCred 1) c) (2 * t.val + 3) 1)))
      ∗ axCreds c) ∗ cred (tallyAt (barC c) 1 1)) ∗ cred (tallyAt (barC c) 1 1)) := by
  show Pipeline.launchCred (fun d => ((((oRing 0 d 0 + oRing 1 d 0) + oCred 0 d 0) + oCred 1 d 0) + oAx d 1 + tallyAt (barC (up 1 d)) 1 1) + tallyAt (barC (up 0 d)) 1 1) c = _
  rw [Pipeline.launchCred_add, Pipeline.launchCred_add, Pipeline.launchCred_add, Pipeline.launchCred_add, Pipeline.launchCred_add, Pipeline.launchCred_add,
    cred_ring, cred_ring, cred_grants, cred_grants, cred_ax]
  exact congrArg₂ _ (congrArg₂ _ rfl (cred_one (around 1).symm _ _ _ c)) (cred_one (around 0).symm _ _ _ c)

/-- A device's tokens, from the duties dealt to it and its launch credit. -/
theorem toks_of (c : Dev nD) : iprop(dealt c ∗ Pipeline.launchCred owed c) ⊢ (toks c : sProp 𝕄) := by
  have hr : ∀ ρ : Fin 2, (ringToks c ρ : sProp 𝕄) = iprop(((bigSep Finset.univ fun t : Fin 15 => dutyTok ER (cell (kRecv ρ (par (t.val + 1))) (dn ρ c)) (t.val / 2) 0)
      ∗ (bigSep Finset.univ fun t : Fin 15 => dutyTok ER (cell (kSend ρ (par t.val)) c) (t.val / 2) 0)
      ∗ (bigSep Finset.univ fun t : Fin 15 => cred (tallyAt (cell (kRecv ρ (par (t.val + 1))) c) (2 * t.val + 2) N)))
      ∗ (bigSep Finset.univ fun t : Fin 14 => dutyTok ER (cell (kCred ρ) (up ρ c)) t.val 0)
      ∗ (bigSep Finset.univ fun t : Fin 14 => cred (tallyAt (cell (kCred ρ) c) (2 * t.val + 3) 1))) := fun ρ => by
    unfold ringToks tk tkc
    rw [over_fin, over_fin, bigSep_sep', bigSep_sep', bigSep_sep']
  unfold toks dealt axToks
  rw [hr, hr, cred_all, bigSep_sep']
  iintro ⟨⟨Hb, ⟨Hr0, Hr1⟩, ⟨Hs0, Hs1⟩, ⟨Hg0, Hg1⟩, Hxs, Hxr⟩, ⟨⟨⟨⟨⟨⟨Hcr0, Hcr1⟩, Hcg0⟩, Hcg1⟩, Hcx⟩, Hcb⟩, Hcb'⟩⟩
  isplitl [Hb]; · iexact Hb
  isplitl [Hcb Hcb']; · iapply (cred_bar c); isplitl [Hcb] <;> iassumption
  isplitl [Hr0 Hs0 Hg0 Hcr0 Hcg0]
  · isplitl [Hr0 Hs0 Hcr0]
    · isplitl [Hr0]; · iexact Hr0
      isplitl [Hs0] <;> iassumption
    isplitl [Hg0] <;> iassumption
  isplitl [Hr1 Hs1 Hg1 Hcr1 Hcg1]
  · isplitl [Hr1 Hs1 Hcr1]
    · isplitl [Hr1]; · iexact Hr1
      isplitl [Hs1] <;> iassumption
    isplitl [Hg1] <;> iassumption
  isplitl [Hxs Hxr]; · isplitl [Hxs] <;> iassumption
  iexact Hcx

end Cert.Deal
-- ==== Proof.Segment.lean ====
module

public import proofs.«01_k».proof.Proof.Region
public import proofs.«01_k».proof.Proof.Deal
public import Idealize.ShloMosaic.Harness.Basic

@[expose] public section

noncomputable section

/-! The `pallas_call` as a segment of the program: what a device brings to it and what it leaves with. -/

namespace Cert.Segment

open Cert.KernelIdeal Cert.KernelIdeal.Gen Cert.Steps Cert.Contents Cert.Ring Cert.Sched Cert.Cells Cert.Pieces Cert.Rows Cert.RingStep Cert.Loop Cert.Maxima Cert.Whole Cert.Body Cert.Deal Cert.Region
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Smoke (bigSep_pair bigSep_unpair)

variable {F : FTy → Type} [FloatOps F]

local notation "𝕄" => MT nD τ sig ℕ (Elt F) ℕ UU ℕ

variable (m : (ℓ : Loc nD τ sig) → Buf (Elt F) ℓ) (c : Dev nD)

/-! ## The arrays before and after -/

theorem idx_zero : ∀ t : Fin cfg0.N, win0_0.index t = ![0, 0] ∧ win0_1.index t = ![0, 0] :=
  (by decide +kernel : ∀ t : Fin grid0.N, _)
theorem xin_eq : xin m c = V m c main_v9 := by unfold xin; blk_ext! [iblk, idx_zero t0_0]
theorem win_eq : win m c = V m c main_v10 := by unfold win; blk_ext! [iblk, idx_zero t0_0]

theorem final : (dat m c).arrAt 2 cfg0.N = out m c := by
  refine (dat m c).arrAt_eq_of_after_last 2 t0_0 (by decide +kernel) _ fun j => ?_
  blk_simp
  rfl

/-- The buffers at the launch, and as the call finds them. -/
def V₀ (c : Dev nD) : Valuation τ sig (Elt F) := fun b => m (c, b)
abbrev V₁ (c : Dev nD) : Valuation τ sig (Elt F) := StableHlo.after hostOps0 (V₀ m c)
/-- The buffers after the call: as before it, the result array apart. -/
def V' : Valuation τ sig (Elt F) := Function.update (V₁ m c) (Proc.devRef .tc main_v11) (out m c)
theorem V'_out : V' m c main_v11 = out m c := Function.update_self _ _ _
theorem V'_ne (b : DevRef τ sig) (h : b ≠ Proc.devRef .tc main_v11) : V' m c b = V₁ m c b := Function.update_of_ne h _ _

theorem arr_first (w : Fin cfg0.W) : (dat m c).arrAt w 0 = V₁ m c (Proc.devRef .tc (Pipeline.arrRef spec0 w)) := rfl
theorem arr_last (w : Fin cfg0.W) : (dat m c).arrAt w cfg0.N = V' m c (Proc.devRef .tc (Pipeline.arrRef spec0 w)) := by
  match w with
  | 0 => exact ((dat m c).arrAt_in 0 rfl cfg0.N).trans (V'_ne m c (Proc.devRef .tc main_v9) (by decide)).symm
  | 1 => exact ((dat m c).arrAt_in 1 rfl cfg0.N).trans (V'_ne m c (Proc.devRef .tc main_v10) (by decide)).symm
  | 2 => exact (final m c).trans (V'_out m c).symm

/-! ## The buffers outside the call's scope -/

abbrev bufs : Finset (DevRef τ sig) := Pipeline.ucRefs τ sig
/-- Those of them that are no window's array. -/
abbrev rest : Finset (DevRef τ sig) := bufs \ Pipeline.arrRefs (τ := τ) spec0

theorem arrs_sub : Pipeline.arrRefs (τ := τ) spec0 ⊆ bufs := Pipeline.arrRefs_sub_ucRefs spec0 (by decide)

/-! ## The segment -/

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

/-- What a device keeps from the launch for the call. -/
def Tk (c : Dev nD) : sProp 𝕄 :=
  iprop((∃ κ, ctx (xin m) (win m) κ) ∗ toks c ∗ atPos ER (barC c) 0 ∅ 0 ∗ bigSep Finset.univ fun k : K => openTok ER (cell k c))

/-- What it has left of the call's semaphores: the barrier, at zero. -/
def Yk (c : Dev nD) : sProp 𝕄 := semVal (barC c) 0

theorem opening : iprop(Tk m c ∗ Pipeline.ownSems0 osem c ∗ levAts L lv) ⊢ (|={Set.univ}=> Xk m c : sProp 𝕄) := by
  have hone : ∀ κ, ∀ k ∈ (Finset.univ : Finset K), iprop(ctx (xin m) (win m) κ ∗ (openTok ER (cell k c) ∗ semVal (cell k c) 0))
      ⊢ (|={Set.univ}=> iprop(atPos ER (cell k c) 0 ∅ 0 ∗ reached ER (cell k c) 0) : sProp 𝕄) := fun κ k _ => by
    iintro ⟨#Hc, Ho, Hv⟩
    iapply (Rounds.cell_open ER (Rd (xin m) (win m)) (g := cell k c) (Set.mem_univ (κ (cell k c))))
    isplitr; · iapply (ctx_cell (xin m) (win m) κ k c); iexact Hc
    isplitl [Ho] <;> iassumption
  unfold Tk Xk opens opened atAll Pipeline.ownSems0
  iintro ⟨⟨⟨%κ, #Hc⟩, Ht, Hb, Ho⟩, Hv, -⟩
  imod (show iprop(ctx (xin m) (win m) κ ∗ bigSep Finset.univ fun k : K => iprop(openTok ER (cell k c) ∗ semVal (cell k c) 0))
      ⊢ (|={Set.univ}=> bigSep Finset.univ fun k : K => iprop(atPos ER (cell k c) 0 ∅ 0 ∗ reached ER (cell k c) 0) : sProp 𝕄) from
    (bigSep_with_persistent (hone κ)).trans (bigSep_fupd _ _)) $$ [Ho Hv] with H
  · isplitr; · iexact Hc
    iapply bigSep_pair
    isplitl [Ho]; · iexact Ho
    iexact Hv
  ihave ⟨Hat, Hr⟩ := bigSep_unpair $$ H
  imodintro
  isplitr; · iexists κ; iexact Hc
  isplitl [Ht]; · iexact Ht
  isplitl [Hr]; · iexact Hr
  isplitl [Hb] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hi_owed : Hi 0 (owed c) :=
  ((hi_ow c 0 0 0 0 1 0 (by decide) (by decide) (by decide) (by decide) (by decide)).add (Hi.at _ _ 1 1 (by decide) (by decide))).add (Hi.at _ _ 1 1 (by decide) (by decide))

theorem above (t : Fin ((Pipeline.pin (pcfgs (F := F)) adm 0).N + 1)) (g : GSem nD τ sig) (i : ℕ) (h : 0 < (pdats (F := F) m 0 c).owed t g i) :
    i ∈ L g ∧ 0 < lv g i := by
  have e : (pdats (F := F) m 0 c).owed t = if t.val = 0 then owed c else 0 := rfl
  rw [e] at h
  split at h
  · obtain ⟨h1, h2, h3⟩ := hi_owed c g i h
    unfold L; rw [if_pos h1]; exact ⟨Finset.mem_range.mpr h3, h2⟩
  · exact absurd h (Nat.lt_irrefl 0)

theorem entering : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = iprop(Xk m c ∗ scratch c ∗ ∃ r, prngReg c r) from Phi_first m c,
    show Pipeline.scopedRest (Ix := ℕ) (Name := ℕ) (U := UU) (Lvl := ℕ) (Val := Elt F) (Pipeline.pin (pcfgs (F := F)) adm 0).spec c = scratch c from scopedRest0_eq c]
  iintro ⟨Hs, Hp, -, HX⟩
  isplitl [HX]; · iexact HX
  isplitl [Hs] <;> iassumption

theorem leaving : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V' m c)
        ∗ Pipeline.ownSems0 osem c ∗ Yk c) := by
  unfold Yk
  rw [show (pdats m 0 c).Φ (Fin.last _) = _ from Phi_last m c,
    show Pipeline.scopedRest (Ix := ℕ) (Name := ℕ) (U := UU) (Lvl := ℕ) (Val := Elt F) (Pipeline.pin (pcfgs (F := F)) adm 0).spec c = scratch c from scopedRest0_eq c]
  unfold StableHlo.held own0
  rw [BI.bigSep_empty]
  iintro ⟨Hb, Hk, Hs, Hp⟩
  isplitl [Hs]; · iexact Hs
  isplitl [Hp]; · iexact Hp
  isplitr; · iempintro
  isplitl [Hk]; · unfold Pipeline.ownSems0; iexact Hk
  iexact Hb

set_option backward.isDefEq.respectTransparency.types false in
def call : Pipeline.RegionSeg (pcfgs (F := F)) adm (pdats m) 0 defs₀ 𝒱₀ L lv 0 :=
  Pipeline.RegionSeg.ofTalk (pcfgs (F := F)) adm (pdats m) 0 defs₀ 𝒱₀ L lv 0 osem ownFacts
    ∅ rest (Finset.empty_subset _) kit rfl (fun c => (body_obligation m c).loose)
    (fun _ => 0) owed (fun c => (show (pdats m 0 c).owed 0 = owed c from owed_first m c).trans (zero_add _).symm) (owed_last m) (fun _ => rfl) (fun _ _ => ite_self _)
    (V₁ m) (V' m) (fun c b hb => V'_ne m c b (by rintro rfl; revert hb; decide))
    (Tk m) Yk (Xk m) Yk (opening m) (entering m) (leaving m)
    (fun c => by iintro H; imodintro; iexact H)
    (fun _ => 0)
    ⟨fun c w s => by rw [L_tc]; exact Finset.mem_range.mpr (by decide), fun _ _ _ => le_refl 0, fun c t g i h => above m c t g i h⟩
    (fun _ => iprop(emp))
    (arr_first m) (arr_last m)

/-- What rides beside the buffers up to the call. -/
def R (c : Dev nD) : sProp 𝕄 := iprop(Tk m c ∗ (∃ r, prngReg c r) ∗ owesE c (owed c))

theorem call_pre : iprop(StableHlo.held (c : Thread nD τ) bufs (V₁ m c) ∗ R m c) ⊢ (call m).pre c := by
  show _ ⊢ iprop(StableHlo.held (c.tc : Thread nD τ) (Pipeline.arrRefs (τ := τ) spec0) (V₁ m c) ∗ (∃ r, prngReg c r)
    ∗ (StableHlo.held (c.tc : Thread nD τ) rest (V₁ m c) ∗ emp) ∗ Tk m c ∗ ∃ Wd, owes (c : Thread nD τ) (0 + owed c) Wd)
  rw [StableHlo.held_sub_split (c.tc : Thread nD τ) arrs_sub (V₁ m c), zero_add]
  unfold R owesE
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem call_post : (call m).post c
    ⊢ iprop(StableHlo.held (c : Thread nD τ) bufs (V' m c) ∗ semVal (barC c) 0 ∗ ∃ Wt, owes (c : Thread nD τ) (0 : CellTallies nD τ sig ℕ) Wt) := by
  show iprop(StableHlo.held (c.tc : Thread nD τ) (Pipeline.arrRefs (τ := τ) spec0) (V' m c) ∗ (∃ r, prngReg c r)
    ∗ (StableHlo.held (c.tc : Thread nD τ) rest (V' m c) ∗ emp) ∗ Yk c ∗ ∃ Wd, owes (c : Thread nD τ) (0 : CellTallies nD τ sig ℕ) Wd) ⊢ _
  rw [StableHlo.held_sub_split (c.tc : Thread nD τ) arrs_sub (V' m c)]
  unfold Yk
  iintro ⟨Ha, -, ⟨Hr, -⟩, Hb, HO⟩
  isplitl [Ha Hr]
  · isplitl [Ha] <;> iassumption
  isplitl [Hb] <;> iassumption

end Cert.Segment

end
-- ==== Proof.Run.lean ====
module

public import proofs.«01_k».proof.Proof.Segment

@[expose] public section

noncomputable section

/-! The program from its launch to its end, on all sixteen devices. -/

namespace Cert.Run

open Cert.KernelIdeal Cert.KernelIdeal.Gen Cert.Steps Cert.Contents Cert.Ring Cert.Sched Cert.Cells Cert.Pieces Cert.Rows Cert.RingStep Cert.Loop Cert.Maxima Cert.Whole Cert.Body Cert.Deal Cert.Region Cert.Segment
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Smoke (bigSep_pair bigSep_unpair)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## What the launch deals out -/

theorem osem_ne_bar (k : K) : osem k ≠ .reg barS := by revert k; decide
theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem unscopedSems_bar : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- The protocol's part of the launch element, and the whole of it. -/
def dealing : sProp 𝕄 := BI.own (ER (launchOf barCells ownCells allDuties))
def u₀ : UU :=
  (initOf (Pipeline.cells (Pipeline.pin (pcfgs (F := F)) adm) cellOf_inj) (Pipeline.launchToks (Pipeline.pin (pcfgs (F := F)) adm) cellOf_inj),
    launchOf barCells ownCells allDuties)

/-- Device 0 holds the protocol's part until it is dealt out. -/
def G (c : Dev nD) : sProp 𝕄 := if c = 0 then dealing else iprop(emp)
theorem G_all : bigSep Finset.univ (G (F := F)) = dealing := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What of the protocol stays with one device. -/
def own (c : Dev nD) : sProp 𝕄 :=
  iprop(atPos ER (barC c) 0 ∅ 0 ∗ (bigSep Finset.univ fun k : K => openTok ER (cell k c)) ∗ dealt c)
/-- What else a device has from the launch. -/
def bundle (c : Dev nD) : sProp 𝕄 :=
  iprop(StableHlo.held (c : Thread nD τ) bufs (V₀ m c) ∗ owes (c : Thread nD τ) (owed c) ∅ ∗ Pipeline.launchCred owed c ∗ prngReg c (ρ c))

abbrev T₀ (c : Dev nD) : sProp 𝕄 := iprop(StableHlo.held (c : Thread nD τ) bufs (V₀ m c) ∗ R m c)

theorem T₀_of (κ : GSem nD τ sig → ℕ) : iprop(ctx (xin m) (win m) κ ∗ (own c ∗ bundle m ρ c)) ⊢ T₀ m c := by
  unfold own bundle T₀ R Tk owesE
  iintro ⟨#Hc, ⟨Hb, Ho, Hd⟩, Hh, HO, Hcr, Hp⟩
  isplitl [Hh]; · iexact Hh
  isplitr [HO Hp]
  · isplitr; · iexists κ; iexact Hc
    isplitl [Hd Hcr]
    · iapply (toks_of c)
      isplitl [Hd] <;> iassumption
    isplitl [Hb] <;> iassumption
  isplitl [Hp]; · iexists (ρ c); iexact Hp
  iexists ∅; iexact HO

/-- At the launch every device gets its part. -/
theorem start :
    iprop((bigSep Finset.univ fun c : Dev nD => iprop(unscopedBufs c (fun b => m ((c : Thread nD τ).loc b)) ∗ unscopedSems0 c
          ∗ owes (c : Thread nD τ) (owed c) ∅ ∗ Pipeline.launchCred owed c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed c) ∅ ∗ Pipeline.launchCred owed c ∗ prngReg c (ρ c) ∗ G c)
      ⊢ (iprop(bundle m ρ c ∗ (semVal (barC c) 0 ∗ G c)) : sProp 𝕄) := by
    rw [show unscopedBufs c (fun b => m ((c : Thread nD τ).loc b)) = StableHlo.held (c : Thread nD τ) bufs (V₀ m c) from Pipeline.unscopedBufs_held c (V₀ m c),
      unscopedSems_bar]
    unfold bundle
    iintro ⟨Hh, Hus, HO, Hcr, Hp, HG⟩
    isplitl [Hh HO Hcr Hp]
    · isplitl [Hh]; · iexact Hh
      isplitl [HO]; · iexact HO
      isplitl [Hcr] <;> iassumption
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄)) ⊢ bigSep Finset.univ (fun c : Dev nD => bigSep Finset.univ fun k : K => openTok ER (cell k c)) :=
    Entails.of_eq (by
      rw [bigSep_map, bigSep_univ_prod]
      rfl)
  iintro ⟨H, #Hlev⟩
  ihave H' := (show (bigSep Finset.univ fun c : Dev nD => iprop(unscopedBufs c (fun b => m ((c : Thread nD τ).loc b)) ∗ unscopedSems0 c
          ∗ owes (c : Thread nD τ) (owed c) ∅ ∗ Pipeline.launchCred owed c ∗ prngReg c (ρ c) ∗ G c))
      ⊢ (bigSep Finset.univ fun c : Dev nD => iprop(bundle m ρ c ∗ (semVal (barC c) 0 ∗ G c)) : sProp 𝕄) from bigSep_mono fun c _ => hcore c) $$ H
  ihave ⟨HB, H3⟩ := bigSep_unpair $$ H'
  ihave ⟨Hv, HG⟩ := bigSep_unpair $$ H3
  ihave Hu := (show bigSep Finset.univ (G (F := F)) ⊢ BI.own (ER (launchOf barCells ownCells allDuties)) from Entails.of_eq G_all) $$ HG
  imod (Rounds.fund_launch ER (Rd (xin m) (win m)) disjoint_cells (fun g _ h => h) allDuties) $$ [Hv Hu] with ⟨%κ, -, #Hinv, #Hr, Hat, Hopen, Htok⟩
  · isplitl [Hv]
    · iapply hv $$ Hv
    · iexact Hu
  imodintro
  iapply (bigSep_with_persistent (R := ctx (xin m) (win m) κ) (Φ := fun c => iprop(own c ∗ bundle m ρ c)) fun c _ => T₀_of m ρ c κ)
  isplitr
  · unfold ctx levs
    isplitr; · iexact Hinv
    isplitr; · iexact Hr
    iexact Hlev
  iapply bigSep_pair
  isplitr [HB]
  · unfold own
    iapply bigSep_pair; isplitl [Hat]; · iapply hat $$ Hat
    iapply bigSep_pair; isplitl [Hopen]; · iapply hopen $$ Hopen
    iapply (Entails.of_eq (duties_dealt (F := F))) $$ Htok
  · iexact HB

/-! ## The two segments -/

def host : Pipeline.HostSeg (Ix := ℕ) (Name := ℕ) (U := UU) (Lvl := ℕ) (pcfgs (F := F)) defs₀ 𝒱₀ L lv :=
  Pipeline.HostSeg.ofOps _ _ _ _ _ bufs hostOps0
    (fun op h => Pipeline.sub_ucRefs op (List.forall_iff_forall_mem.mp hostOps0_sub op h))
    (fun op h => List.forall_iff_forall_mem.mp hostOps0_fresh op h) (V₀ m) (R m)

def segs : List (Pipeline.Seg (pcfgs (F := F)) adm (pdats m) 0 defs₀ 𝒱₀ L lv) := [.host (host m), .region (call m)]

/-- The buffers the claims speak of. -/
abbrev named : Finset (DevRef τ sig) := {Proc.devRef .tc main_arg0, Proc.devRef .tc main_arg1, Proc.devRef .tc main_v11}
theorem named_sub : named ⊆ bufs := by decide
theorem named_eq (W : Valuation τ sig (Elt F)) : (StableHlo.held (c : Thread nD τ) named W : sProp 𝕄)
    = iprop(((c : Thread nD τ).loc main_arg0 ↦{fullShare} W main_arg0) ∗ ((c : Thread nD τ).loc main_arg1 ↦{fullShare} W main_arg1)
        ∗ ((c : Thread nD τ).loc main_v11 ↦{fullShare} W main_v11)) := by
  unfold StableHlo.held
  rw [bigSep_eq_bigSepL_of_eq [Proc.devRef .tc main_arg0, Proc.devRef .tc main_arg1, Proc.devRef .tc main_v11] (by decide) (by decide)]
  rfl
abbrev Tₙ (c : Dev nD) : sProp 𝕄 := iprop(StableHlo.held (c : Thread nD τ) named (V' m c) ∗ semVal (barC c) 0)

theorem ends : (call m).post c ⊢ iprop(Tₙ m c ∗ ∃ Wt, owes (c : Thread nD τ) (0 : CellTallies nD τ sig ℕ) Wt) := by
  refine (call_post m c).trans ?_
  rw [StableHlo.held_sub_split (c : Thread nD τ) named_sub (V' m c)]
  iintro ⟨⟨Hh, -⟩, Hb, HO⟩
  isplitr [HO]
  · isplitl [Hh] <;> iassumption
  iexact HO

theorem unscoped_bar : ∀ sm : SemLoc sig, sm.isScoped .tc = false → sm = .reg barS := by decide

set_option backward.isDefEq.respectTransparency.types false in
/-- Every run of the program ends, with each device's arguments as they were, its block of the result in place, and
    every semaphore at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v11) = out m c) ∧ r.2.sem = fun _ => 0) :=
  Pipeline.θ_run_regions_kit_sems (pcfgs (F := F)) adm (pdats m) 0 cellOf_inj EP defs₀ 𝒱₀ L lv m ρ main (segs m)
    (fun c Q => by rw [main_segs adm (pdats m) 0 𝒱₀ L lv (host m) (call m) rfl c]; exact .rfl)
    (by simp only [segs, Pipeline.Seg.pipes_host, Pipeline.Seg.pipes_region, Pipeline.Seg.pipes_nil]; decide)
    (O₀ := owed) (hL := L_of_ne) (G := G) (u₀ := u₀)
    (hu₀ := by
      unfold u₀
      rw [G_all]
      iintro Hu
      ihave H := (ownU_pair _ _) $$ Hu
      icases H with ⟨HP, HX⟩
      imodintro
      isplitl [HP]; · iexact HP
      unfold dealing; iexact HX)
    (T₀ := T₀ m) (Tₙ := Tₙ m)
    (hch := ⟨fun c => .rfl, fun c => call_pre m c, fun c => ends m c⟩)
    (hinit := start m ρ)
    (QY := fun c s => (s.mem ((c : Thread nD τ).loc main_arg0) = V' m c main_arg0 ∧ s.mem ((c : Thread nD τ).loc main_arg1) = V' m c main_arg1
      ∧ s.mem ((c : Thread nD τ).loc main_v11) = V' m c main_v11) ∧ s.sem (barC c) = 0)
    (hfin := fun c s' => by
      dsimp only [Tₙ]; rw [named_eq]
      iintro ⟨⟨⟨Hx, Hw, Hy⟩, Hb0⟩, HSI⟩
      icombine HSI Hx gives %hx
      icombine HSI Hw gives %hw
      icombine HSI Hy gives %hy
      icombine HSI Hb0 gives %hb
      imodintro
      isplitr
      · ipureintro
        exact ⟨⟨Buf.eq_of_forall_mem_univ hx, Buf.eq_of_forall_mem_univ hw, Buf.eq_of_forall_mem_univ hy⟩, by simpa using hb⟩
      iexact HSI)
    (hQ := fun s h hs => ⟨fun c => by
        obtain ⟨⟨hx, hw, hy⟩, -⟩ := h c
        exact ⟨hx.trans ((V'_ne m c _ (by decide)).trans (V_main_arg0 m c)), hw.trans ((V'_ne m c _ (by decide)).trans (V_main_arg1 m c)), hy.trans (V'_out m c)⟩,
      sem_eq_zero hs fun c sm hsm => by
        obtain rfl := unscoped_bar sm hsm
        exact (h c).2⟩)

end Cert.Run

end
-- ==== Proof.Twin.lean ====
module

public import proofs.«01_k».proof.Proof.Run
public import proofs.«01_k».proof.Proof.Gen.Kernel.Frame

@[expose] public section

noncomputable section

/-! The kernel as printed is, word for word, the program whose run is proved. -/

namespace Cert.Twin

open Idealize.ShloMosaic Idealize.ShloMosaic.TcCoe Idealize.SL.Sem

theorem sig_eq : Cert.Kernel.sig = Cert.KernelIdeal.sig := rfl
theorem labels_eq : Cert.Kernel.Λ₀ = Cert.KernelIdeal.Λ₀ := rfl

set_option maxRecDepth 100000 in
theorem main_eq : Cert.Kernel.main (F := Bits) = Cert.KernelIdeal.main (F := Bits) := rfl
set_option maxRecDepth 100000 in
theorem body_eq (a : Cert.KernelIdeal.Λ₀.Args 0) :
    Cert.Kernel.defs₀ (F := Bits) .tc 0 a = Cert.KernelIdeal.defs₀ (F := Bits) .tc 0 a := by
  obtain ⟨t, s⟩ := a
  rfl

theorem cfgs_eq : Cert.Kernel.cfg0 = Cert.KernelIdeal.cfg0 := rfl

theorem pcfgs_eq : Cert.Kernel.pcfgs (F := Bits) = Cert.KernelIdeal.pcfgs (F := Bits) := rfl

theorem defs0_eq : Cert.Kernel.defs₀ (F := Bits) = Cert.KernelIdeal.defs₀ (F := Bits) := by
  funext p l a
  match p with
  | .tc =>
    match l with
    | 0 => exact body_eq a
  | .scScalar _ => rfl
  | .scVector _ _ => rfl

theorem defs_eq : Cert.Kernel.defs (F := Bits) = Cert.KernelIdeal.defs (F := Bits) :=
  congrArg (Pipeline.defs (Cert.KernelIdeal.pcfgs (F := Bits))) defs0_eq

theorem run_main (m : (ℓ : Loc Cert.Kernel.nD Cert.Kernel.τ Cert.Kernel.sig) → Buf (Elt Bits) ℓ)
    (ρ : Dev Cert.Kernel.nD → PrngReg) :
    θ_run (Cert.Kernel.defs (F := Bits)) (onTc (τ := Cert.Kernel.τ) (Cert.Kernel.main (F := Bits)))
      ⟨m, fun _ => 0, ρ⟩
      (fun r => (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)
        ∧ r.2.mem ((c.tc : Thread Cert.Kernel.nD Cert.Kernel.τ).loc Cert.Kernel.main_arg1)
          = m ((c.tc : Thread Cert.Kernel.nD Cert.Kernel.τ).loc Cert.Kernel.main_arg1))
        ∧ r.2.sem = fun _ => 0) := by
  rw [defs_eq, main_eq]
  exact (θ_run _ _ _).mono (fun _ h => ⟨fun c => ⟨(h.1 c).1, (h.1 c).2.1⟩, h.2⟩)
    (Cert.Run.run_main (F := Bits) m ρ)

end Cert.Twin

end
-- ==== Proof.Arith.lean ====
module

public import Idealize.ShloMosaic.PureOps.Ideal.Laws
public import Idealize.ShloMosaic.Lib.ValueIdx
public import Idealize.ShloMosaic.Lib.Pipeline.Value

@[expose] public section

noncomputable section

/-! Facts on the extended reals: the maximum of a block, the two ways of writing the quantiser, a sum over
all rows as a sum over the devices' rows. -/

namespace Cert.Arith

open Idealize.ShloMosaic

/-- The constant 448. -/
abbrev q448 : EReal := Ideal.ofBits .f32 0x43E00000#32
theorem q448_eq : q448 = ((448 : ℝ) : EReal) := by
  have hs : BitVec.extractLsb' 31 1 0x43E00000#32 ≠ 1#1 := by decide
  have he : 1138753536 >>> 23 % 256 = 135 := by decide
  simp [q448, Ideal.ofBits, Ideal.ieee, hs, he]
  rw [← EReal.coe_mul]
  norm_num

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

/-- Multiplying by `448 / g` is dividing by `g / 448`; where `g` is zero both products vanish. -/
theorem quant (y g : EReal) :
    min (y * Ideal.div q448 g) q448 * Ideal.div g q448 = min (Ideal.div y (Ideal.div g q448)) q448 * Ideal.div g q448 := by
  have h4 : q448 ≠ 0 := by rw [q448_eq]; norm_num
  by_cases h : g = 0
  · have hz : Ideal.div g q448 = 0 := by rw [h]; unfold Ideal.div; rw [if_neg h4, zero_mul]
    rw [hz, mul_zero, mul_zero]
  · have hs : Ideal.div g q448 ≠ 0 := by
      unfold Ideal.div; rw [if_neg h4, q448_eq, ← EReal.coe_inv]
      intro e
      rcases mul_eq_zero.mp e with e | e
      · exact h e
      · exact absurd (EReal.coe_eq_zero.mp e) (by norm_num)
    have e : Ideal.div y (Ideal.div g q448) = y * Ideal.div q448 g := by
      have e1 : Ideal.div y (Ideal.div g q448) = y * (Ideal.div g q448)⁻¹ := if_neg hs
      have e2 : Ideal.div g q448 = g * q448⁻¹ := if_neg h4
      have e3 : Ideal.div q448 g = q448 * g⁻¹ := if_neg h
      rw [e1, e2, e3, EReal.mul_inv, q448_eq, ← EReal.coe_inv, ← EReal.coe_inv, inv_inv, mul_comm (g⁻¹)]
    rw [e]

/-- The maximum over all elements of a vector, however re-laid. -/
theorem maxAll {s s' t : Shape} (axes : List (Fin s'.rank)) (v : FVec Ideal s .f32) (h1 : s.ShapeCasts s') (h2 : s'.Reduces axes t)
    (hφ : FKind.Formats .f32) (hacc : (0xFF800000#32 : BitVec FTy.f32.bits) = FKind.maximumf.neutral .f32 hφ) (ht : Subsingleton t.Idx) (j : t.Idx) :
    multiReduction .maximumf axes t (shapeCast s' v h1) 0xFF800000#32 h2 hφ hacc j = ⨆ i : s.Idx, (v i : EReal) := by
  refine (multiReduction_maximumf_eq_fold (F := Ideal) _ _ h2 hφ hacc j).trans ?_
  rw [Finset.filter_true_of_mem fun i _ => Subsingleton.elim _ _]
  have hb : (FloatOps.ofBits .f32 0xFF800000#32 : Ideal .f32) = (⊥ : EReal) := neg_inf
  rw [hb]
  refine Eq.trans (b := Finset.univ.sup fun i : s'.Idx => (v (Shape.reshapeEquiv h1 i) : EReal)) rfl ?_
  rw [Finset.sup_univ_eq_iSup]
  exact (Shape.reshapeEquiv h1).iSup_comp (g := fun i : s.Idx => (v i : EReal))

/-- A shape of one index. -/
theorem one_index : Subsingleton (⟨1, ![1]⟩ : Shape).Idx := ⟨fun a b => funext fun k => by
  match k with
  | ⟨0, _⟩ => exact Subsingleton.elim (α := Fin 1) (a 0) (b 0)⟩

/-- The element taken out of a vector of one. -/
theorem only (w : FVec Ideal ⟨1, ![1]⟩ .f32) (a : EReal) (h : ∀ j, w j = a) (h1 : (⟨1, ![1]⟩ : Shape).ShapeCasts ⟨3, ![1, 1, 1]⟩)
    (h2 : ∀ k, ![0, 0, 0] k < (⟨3, ![1, 1, 1]⟩ : Shape).size k) :
    extractAt ![0, 0, 0] (shapeCast ⟨3, ![1, 1, 1]⟩ w h1) h2 = a := h _

/-- A sum over 4096 positions as sixteen sums over 256. -/
theorem sum_rows (f : ℕ → EReal) : (∑ c : Fin 16, ∑ k : Fin 256, f (256 * c.val + k.val)) = ∑ k : Fin 4096, f k.val := by
  rw [← Fintype.sum_prod_type', ← Equiv.sum_comp (finProdFinEquiv (m := 16) (n := 256))]
  refine Finset.sum_congr rfl fun p _ => congrArg f ?_
  show 256 * p.1.val + p.2.val = p.2.val + 256 * p.1.val
  omega

/-- A finite extended real less itself is zero. -/
theorem sub_self_finite (x : EReal) (h : max x (-x) < ⊤) : x - x = 0 := by
  induction x with
  | bot => simp at h
  | top => simp at h
  | coe r => rw [← EReal.coe_sub, sub_self, EReal.coe_zero]

end Cert.Arith

end
-- ==== Proof.Host.lean ====
module

public import proofs.«01_k».proof.Proof.Arith
public import proofs.«01_k».proof.Proof.Segment
public import Idealize.ShloMosaic.Lib.Pointwise
public import Idealize.ShloMosaic.Lib.ReduceAll
public import proofs.«01_k».proof.Pre_finite_KernelIdeal

@[expose] public section

noncomputable section

/-! What the host lines leave in the two arrays of the `pallas_call`, on the extended reals: each operand beside
its own rounding remainder, which is zero where the operand is finite. -/

namespace Cert.HostVal

open Cert.KernelIdeal Cert.KernelIdeal.Gen
open Idealize.ShloMosaic Idealize.ShloMosaic.TcCoe

variable (m : (ℓ : Loc nD τ sig) → Buf (Elt Ideal) ℓ) (c : Dev nD)

/-- A device's columns of `x`, and its rows of `w`. -/
abbrev xa : S4096x256.Idx → EReal := m ((c.tc : Thread nD τ).loc main_arg0)
abbrev wa : S256x8192.Idx → EReal := m ((c.tc : Thread nD τ).loc main_arg1)

/-- The two arrays of the call. -/
abbrev xcat : S4096x768.Idx → EReal := V m c main_v9
abbrev wcat : S768x8192.Idx → EReal := V m c main_v10

theorem xcat_eq : xcat m c =
    concatenate S4096x768 1 [⟨S4096x256, xa m c⟩, ⟨S4096x256, fun i => xa m c i - xa m c i⟩, ⟨S4096x256, xa m c⟩]
      Facts₀.concatenates_S4096x256_S4096x256_S4096x256_S4096x768_d1 := by
  unfold_abbrev_sides
  after_results
  rfl

theorem wcat_eq : wcat m c =
    concatenate S768x8192 0 [⟨S256x8192, wa m c⟩, ⟨S256x8192, wa m c⟩, ⟨S256x8192, fun i => wa m c i - wa m c i⟩]
      Facts₀.concatenates_S256x8192_S256x8192_S256x8192_S768x8192_d0 := by
  unfold_abbrev_sides
  after_results
  rfl

theorem ix2_eq {a b : ℕ} (i : Fin a) (j : Fin b) : ValueIdx.ix2 i j = ix2 i j := funext fun k => by
  match k with
  | ⟨0, _⟩ => rfl
  | ⟨1, _⟩ => rfl

/-- The product of the two arrays at an entry is the product of the operands: the remainders add nothing. -/
theorem dot_eq (hx : ∀ i, xa m c i - xa m c i = 0) (hw : ∀ i, wa m c i - wa m c i = 0) (i : Fin 4096) (j : Fin 8192) :
    (∑ k : Fin 768, xcat m c (ValueIdx.ix2 i k) * wcat m c (ValueIdx.ix2 k j)) =
      ∑ k : Fin 256, xa m c (ValueIdx.ix2 i k) * wa m c (ValueIdx.ix2 k j) := by
  simp only [ix2_eq]
  rw [xcat_eq, wcat_eq]
  simp only [hx, hw]
  pointwise
  refine (Finset.sum_congr rfl (g := fun k : Fin 768 =>
    if h : k.val < 256 then xa m c (ix2 i ⟨k.val, h⟩) * wa m c (ix2 ⟨k.val, h⟩ j) else 0) fun k _ => ?_).trans ?_
  · by_cases h : k.val < 256
    · simp only [h, ↓reduceDIte]
    · simp only [h, ↓reduceDIte]
      by_cases h2 : k.val - 256 < 256
      · simp only [h2, ↓reduceDIte, zero_mul]
      · simp only [h2, ↓reduceDIte, mul_zero]
  · rw [show (768 : ℕ) = 256 + 512 from rfl, Fin.sum_univ_add]
    refine (congrArg₂ (· + ·) (Finset.sum_congr rfl fun k _ => dif_pos k.isLt)
      (Finset.sum_eq_zero fun k _ => dif_neg (by show ¬ 256 + k.val < 256; omega))).trans ?_
    exact add_zero _

/-! ## The precondition -/

theorem lt_of_cmpf (a b : EReal) (h : FloatOps.cmpf (F := Ideal) (φ := .f32) .olt a b = 1#1) : a < b := by
  by_contra hn
  have : FloatOps.cmpf (F := Ideal) (φ := .f32) .olt a b = 0#1 := by simp [Ideal.cmpf_def, Ideal.cmp, hn]
  rw [this] at h
  exact absurd h (by decide)

theorem finite [Cert.Pre_finite_KernelIdeal.Facts] (x : S4096x256.Idx → EReal) (w : S256x8192.Idx → EReal)
    (h : Cert.Pre_finite_KernelIdeal.fn (F := Ideal) x w = fun _ => 1#1) : (∀ i, x i - x i = 0) ∧ ∀ i, w i - w i = 0 := by
  have e := congrFun h (fun a => a.elim0)
  obtain ⟨e1, e2⟩ := IntOp.andi_eq_one.1 (e : IntOp.andi _ _ = 1#1)
  haveI : Subsingleton Cert.Pre_finite_KernelIdeal.S_.Idx := ⟨fun a b => funext fun k => k.elim0⟩
  refine ⟨fun i => ?_, fun i => ?_⟩
  · have := Host.reduce_andi_all _ _ _ _ _ e1 i
    refine Cert.Arith.sub_self_finite (x i) ?_
    have l := lt_of_cmpf _ _ this
    exact lt_of_lt_of_eq l Cert.Arith.pos_inf
  · have := Host.reduce_andi_all _ _ _ _ _ e2 i
    refine Cert.Arith.sub_self_finite (w i) ?_
    have l := lt_of_cmpf _ _ this
    exact lt_of_lt_of_eq l Cert.Arith.pos_inf

end Cert.HostVal

end
-- ==== Proof.Sums.lean ====
module

public import proofs.«01_k».proof.Proof.Arith
public import proofs.«01_k».proof.Proof.Sched
public import Idealize.ShloMosaic.Lib.MatmulPlain

@[expose] public section

noncomputable section

/-! The partial sums of the two rings on the extended reals: after all the steps a device's block holds the sum of
all devices' products of its rows. -/

namespace Cert.Sums

open Cert.KernelIdeal Cert.KernelIdeal.Gen Cert.Steps Cert.Contents Cert.Ring Cert.Sched
open Idealize.ShloMosaic Idealize.ShloMosaic.TcCoe Idealize.ShloMosaic.ValueIdx

variable (X : Dev nD → S4096x768.Idx → EReal) (W : Dev nD → S768x8192.Idx → EReal)

/-- Device `c`'s product at an entry of the whole. -/
def P (c : Dev nD) (i : Fin 4096) (j : Fin 8192) : EReal := ∑ k : Fin 768, X c (ix2 i k) * W c (ix2 k j)

/-- The device whose rows device `c` multiplies `k`-th for ring `ρ`. -/
def chunk : Fin 2 → Dev nD → Fin 16 → Fin 16
  | 0, c, k => ⟨(c.val + 31 - k.val) % 16, Nat.mod_lt _ (by decide)⟩
  | 1, c, k => ⟨(c.val + 1 + k.val) % 16, Nat.mod_lt _ (by decide)⟩

/-- Row `r` of device `d`'s rows, in the whole. -/
def row (d : Fin 16) (r : Fin 256) : Fin 4096 := ⟨256 * d.val + r.val, by omega⟩
/-- Column `l` of column block `b`. -/
def col (b : Fin 4) (l : Fin 2048) : Fin 8192 := ⟨2048 * b.val + l.val, by omega⟩

theorem off1 : ∀ (c : Dev nD) (k : Fin 16), k0_off1 c (BitVec.ofNat 32 k.val) = ![256 * (chunk 0 c k).val, 0] := by decide +kernel
theorem off2 : ∀ (c : Dev nD) (k : Fin 16), k0_off2 c (BitVec.ofNat 32 k.val) = ![256 * (chunk 1 c k).val, 0] := by decide +kernel
theorem chunk_up : ∀ (ρ : Fin 2) (c : Dev nD) (s : Fin 15), chunk ρ (up ρ c) s.castSucc = chunk ρ c s.succ := by decide +kernel
theorem chunk_last : ∀ (ρ : Fin 2) (c : Dev nD), (chunk ρ c 15).val = c.val := by decide +kernel
theorem up_inj : ∀ (ρ : Fin 2) (c : Dev nD) (i j : Fin 16), (up ρ)^[i.val] c = (up ρ)^[j.val] c → i = j := by decide +kernel

theorem rowsOf_apply (o : Fin 2 → ℕ) (ho : ∀ a, o a + S256x768.size a ≤ S4096x768.size a) (d : Fin 16) (e : o = ![256 * d.val, 0])
    (x : S4096x768.Idx → EReal) (r : Fin 256) (k : Fin 768) : rowsOf (F := Ideal) x o ho (ix2 r k) = x (ix2 (row d r) k) := by
  subst e
  refine congrArg x ?_
  funext a
  match a with
  | ⟨0, _⟩ => exact Fin.ext (show 256 * d.val + 1 * r.val = 256 * d.val + r.val by omega)
  | ⟨1, _⟩ => exact Fin.ext (show 0 + 1 * k.val = k.val by omega)

theorem rowsK_apply (ρ : Fin 2) (c : Dev nD) (k : Fin 16) (r : Fin 256) (q : Fin 768) :
    rowsK (F := Ideal) X ρ c k (ix2 r q) = X c (ix2 (row (chunk ρ c k) r) q) := by
  match ρ with
  | 0 => exact rowsOf_apply _ _ _ (off1 c k) _ r q
  | 1 => exact rowsOf_apply _ _ _ (off2 c k) _ r q

theorem colsOf_apply (b : Fin 4) (w : S768x8192.Idx → EReal) (k : Fin 768) (l : Fin 2048) : colsOf (F := Ideal) w b (ix2 k l) = w (ix2 k (col b l)) := by
  refine congrArg w ?_
  funext a
  match a with
  | ⟨0, _⟩ => exact Fin.ext (show 0 + 1 * k.val = k.val by omega)
  | ⟨1, _⟩ => exact Fin.ext (show 2048 * b.val + 1 * l.val = 2048 * b.val + l.val by omega)

theorem pay5_apply (x : FVec Ideal S256x768 .bf16) (w : FVec Ideal S768x2048 .bf16) (r : Fin 256) (l : Fin 2048) :
    k0_pay5 (F := Ideal) x w (ix2 r l) = (∑ k : Fin 768, (x (ix2 r k) : EReal) * w (ix2 k l) : EReal) := by
  unfold k0_pay5
  simp only [shapeCast_self]
  refine (Ideal.matmul_plain_apply _ _ _ _ r l).trans ?_
  rw [constant_apply, Ideal.ofBits_zero_f32]
  exact zero_add _

theorem blk_apply (ρ : Fin 2) (c : Dev nD) (k : Fin 16) (h : Fin 2) (r : Fin 256) (l : Fin 2048) :
    blk (F := Ideal) X W ρ c k h (ix2 r l) = P X W c (row (chunk ρ c k) r) (col (cb ρ h) l) := by
  unfold blk
  refine (pay5_apply _ _ r l).trans (Finset.sum_congr rfl fun q _ => ?_)
  exact congrArg₂ (fun a b : EReal => a * b) (rowsK_apply X ρ c k r q) (colsOf_apply (cb ρ h) (W c) q l)

theorem acc_apply (ρ h : Fin 2) (r : Fin 256) (l : Fin 2048) : ∀ (s : ℕ) (hs : s < 16) (c : Dev nD),
    acc (F := Ideal) X W ρ s c h (ix2 r l) = (∑ j ∈ Finset.range (s + 1), P X W ((up ρ)^[j] c) (row (chunk ρ c ⟨s, hs⟩) r) (col (cb ρ h) l) : EReal)
  | 0, _, c => (blk_apply X W ρ c 0 h r l).trans (Finset.sum_range_one (fun j => P X W ((up ρ)^[j] c) (row (chunk ρ c 0) r) (col (cb ρ h) l))).symm
  | s + 1, hs, c => by
    have ih := acc_apply ρ h r l s (by omega) (up ρ c)
    have e : chunk ρ (up ρ c) ⟨s, by omega⟩ = chunk ρ c ⟨s + 1, hs⟩ := chunk_up ρ c ⟨s, by omega⟩
    rw [e] at ih
    have ek : kk (s + 1) = ⟨s + 1, hs⟩ := Fin.ext (Nat.mod_eq_of_lt hs)
    have hb := blk_apply X W ρ c (kk (s + 1)) h r l
    rw [ek] at hb
    rw [Finset.sum_range_succ']
    refine (congrArg₂ (fun a b : EReal => a + b) ih ?_ : _)
    rw [ek]
    exact hb

theorem sum_up (ρ : Fin 2) (c : Dev nD) (f : Dev nD → EReal) : (∑ j ∈ Finset.range 16, f ((up ρ)^[j] c)) = ∑ d : Dev nD, f d := by
  rw [Finset.sum_range]
  exact Function.Bijective.sum_comp (Finite.injective_iff_bijective.mp fun i j e => up_inj ρ c i j e) f

theorem resK_apply (ρ h : Fin 2) (c : Dev nD) (r : Fin 256) (l : Fin 2048) :
    resK (F := Ideal) X W ρ c h (ix2 r l) = (max (∑ d : Dev nD, P X W d (row c r) (col (cb ρ h) l)) 0 : EReal) := by
  have ha := acc_apply X W ρ h r l 14 (by decide) (up ρ c)
  have hb := blk_apply X W ρ c 15 h r l
  have e : chunk ρ (up ρ c) ⟨14, by decide⟩ = c := (chunk_up ρ c 14).trans (Fin.ext (chunk_last ρ c))
  have e' : chunk ρ c 15 = c := Fin.ext (chunk_last ρ c)
  rw [e] at ha
  rw [e'] at hb
  unfold resK k0_pay146
  have hl : shapeCast S256x2048 (lift (acc (F := Ideal) X W ρ 14 (up ρ c) h)) Facts₀.shapeCasts_S1x256x2048_S256x2048 = acc (F := Ideal) X W ρ 14 (up ρ c) h := flat_lift _
  refine congrArg₂ (fun a b : EReal => max a b) ?_ Ideal.ofBits_zero_f32
  simp only [shapeCast_self]
  rw [← sum_up ρ c, Finset.sum_range_succ']
  exact congrArg₂ (fun a b : EReal => a + b) ((congrFun hl _).trans ha) hb

/-- A device's block before it is quantised. -/
theorem res_apply (c : Dev nD) (r : Fin 256) (j : Fin 8192) :
    blocks (res (F := Ideal) X W c) (ix2 r j) = (max (∑ d : Dev nD, P X W d (row c r) j) 0 : EReal) := by
  refine (resK_apply X W _ _ c r _).trans ?_
  refine congrArg (fun j' => max (∑ d : Dev nD, P X W d (row c r) j') 0) (Fin.ext ?_)
  have hj := j.isLt
  show 2048 * (2 * (j.val / 2048 / 2) + j.val / 2048 % 2) + j.val % 2048 = j.val
  omega

end Cert.Sums

end
-- ==== Proof.Quantise.lean ====
module

public import proofs.«01_k».proof.Proof.Sums

@[expose] public section

noncomputable section

/-! What a device writes, on the extended reals: its block quantised with the maximum over all devices' blocks. -/

namespace Cert.Quantise

open Cert.KernelIdeal Cert.KernelIdeal.Gen Cert.Steps Cert.Contents Cert.Ring Cert.Sched Cert.Arith
open Idealize.ShloMosaic Idealize.ShloMosaic.TcCoe Idealize.ShloMosaic.ValueIdx

variable (X : Dev nD → S4096x768.Idx → EReal) (W : Dev nD → S768x8192.Idx → EReal)

theorem row_apply (g : EReal) (j : S1x128.Idx) : shapeCast S1x128 (broadcast S128 g) Facts₀.shapeCasts_S128_S1x128 j = g := rfl

theorem pay151_apply (v : FVec Ideal S256x8192 .f32) (j : S1x128.Idx) : k0_pay151 (F := Ideal) v j = (⨆ i, (v i : EReal) : EReal) := by
  unfold k0_pay151
  have e : shapeCast S256x8192 v Facts₀.shapeCasts_S256x8192_S256x8192 = v := shapeCast_self _ _
  have h := maxAll [1, 2] (shapeCast S256x8192 v Facts₀.shapeCasts_S256x8192_S256x8192) Facts₀.shapeCasts_S256x8192_S1x256x8192
    Facts₀.reduces_S1x256x8192_S1 (.inl rfl) rfl one_index
  refine (row_apply _ j).trans (only _ _ (fun j => ?_) _ _)
  exact (h j).trans (congrArg (fun w : FVec Ideal S256x8192 .f32 => (⨆ i, (w i : EReal) : EReal)) e)

theorem pay152_eq (v : FVec Ideal S16x128 .f32) : k0_pay152 (F := Ideal) v = (⨆ i, (v i : EReal) : EReal) := by
  unfold k0_pay152
  exact only _ _ (maxAll [1, 2] v Facts₀.shapeCasts_S16x128_S1x16x128 Facts₀.reduces_S1x16x128_S1 (.inl rfl) rfl one_index) _ _

/-- The maximum of one device's block, and of all. -/
def top (c : Dev nD) : EReal := ⨆ i, (blocks (res (F := Ideal) X W c) i : EReal)
def topAll : EReal := ⨆ c : Dev nD, top X W c

theorem lmax_apply (c : Dev nD) (x : S128.Idx) : lmax (F := Ideal) X W c x = top X W c := by
  unfold lmax flatRow top
  exact pay151_apply _ _

theorem rt_surj : ∀ c d : Dev nD, ∃ r : Fin 16, rt c (16 - r.val) = d := by decide +kernel

theorem top_rows (c : Dev nD) : k0_pay152 (F := Ideal) (rowsBuf (rowVal (F := Ideal) X W c)) = topAll X W := by
  refine (pay152_eq _).trans ?_
  have e : ∀ i : S16x128.Idx, rowsBuf (rowVal (F := Ideal) X W c) i = top X W (rt c (16 - (i 0).val)) := fun i => by
    unfold rowsBuf rowVal
    exact lmax_apply X W _ _
  refine le_antisymm (iSup_le fun i => (e i).trans_le (le_iSup (top X W) _)) (iSup_le fun d => ?_)
  obtain ⟨r, rfl⟩ := rt_surj c d
  exact (e (ix2 r 0)).symm.trans_le (le_iSup (fun i => (rowsBuf (rowVal (F := Ideal) X W c) i : EReal)) (ix2 r 0))

theorem pay155_apply (a : FVec Ideal S16x128 .f32) (g : EReal) (hg : k0_pay152 (F := Ideal) a = g) (y : FVec Ideal S256x2048 .f32) (i : S256x2048.Idx) :
    k0_pay155 (F := Ideal) a y i = (min (y i * Ideal.div q448 g) q448 * Ideal.div g q448 : EReal) := by
  unfold k0_pay155 k0_pay153 k0_pay154
  rw [hg]
  have e : shapeCast S256x2048 y Facts₀.shapeCasts_S256x2048_S256x2048 = y := shapeCast_self _ _
  refine congrArg₂ (fun a b : EReal => a * b) (congrArg₂ (fun a b : EReal => min a b) (congrArg₂ (fun a b : EReal => a * b) (congrFun e i) ?_) ?_) ?_
  · rfl
  · rfl
  · rfl

theorem fin_apply (c : Dev nD) (i : S256x8192.Idx) :
    blocks (fin (F := Ideal) X W c) i =
      (min ((blocks (res (F := Ideal) X W c) i : EReal) * Ideal.div q448 (topAll X W)) q448 * Ideal.div (topAll X W) q448 : EReal) :=
  pay155_apply _ _ (top_rows X W c) _ _

end Cert.Quantise

end
-- ==== Proof.RefValue.lean ====
module

public import proofs.«01_k».proof.Proof.Arith
public import proofs.«01_k».proof.Proof.Gen.ReferenceIdeal.Value
public import Idealize.ShloMosaic.Lib.Pipeline.Value
public import Idealize.ShloMosaic.Lib.StackMember
public import Idealize.ShloMosaic.Lib.Tactic
public import Idealize.ShloMosaic.Lib.Pipeline.ValueKit

@[expose] public section

noncomputable section

/-! The reference on the extended reals: the product cut at zero, quantised with its maximum. -/

namespace Cert.RefValue

open Cert.ReferenceIdeal Cert.ReferenceIdeal.Gen Cert.ReferenceIdeal.Value Cert.Arith
open Idealize.ShloMosaic hiding ix2
open Idealize.ShloMosaic.TcCoe Idealize.ShloMosaic.ValueIdx

variable (m : (ℓ : Loc nD τ sig) → Buf (Elt Ideal) ℓ) (c : Dev nD)

/-- The operands and their product. -/
abbrev xr : S4096x4096.Idx → EReal := m ((c.tc : Thread nD τ).loc main_arg0)
abbrev wr : S4096x8192.Idx → EReal := m ((c.tc : Thread nD τ).loc main_arg1)
abbrev prod : S4096x8192.Idx → EReal := V m c main_v0

theorem prod_apply (i : Fin 4096) (j : Fin 8192) : prod m c (ix2 i j) = ∑ k : Fin 4096, xr m c (ix2 i k) * wr m c (ix2 k j) := by
  refine Eq.trans ?_ (StackMember.dotGeneral_plain_apply (φ₁ := .f32) (φ₂ := .f32) none (xr m c) (wr m c) i j)
  unfold_abbrev_sides
  after_results
  rfl

/-- The maximum of the absolute values of the product cut at zero. -/
def top (v : S4096x8192.Idx → EReal) : EReal := ⨆ i, max (max (v i) 0) (-max (v i) 0)

theorem pay1_apply (v : S4096x8192.Idx → EReal) (i : S4096x8192.Idx) :
    k0_pay1 (F := Ideal) v i = (min (Ideal.div (max (v i) 0) (Ideal.div (top v) q448)) q448 * Ideal.div (top v) q448 : EReal) := by
  have hz : (FloatOps.ofBits .f32 0x00000000#32 : Ideal .f32) = (0 : EReal) := Ideal.ofBits_zero_f32
  have e : shapeCast S4096x8192 v Facts₀.shapeCasts_S4096x8192_S4096x8192 = v := shapeCast_self _ _
  have hc : ∀ i, maximumf (F := Ideal) (φ := .f32) (shapeCast S4096x8192 v Facts₀.shapeCasts_S4096x8192_S4096x8192)
      (broadcast S4096x8192 (Scalar.ofBits .f32 0x00000000#32)) i = max (v i) 0 := fun i => congrArg₂ (fun a b : EReal => max a b) (congrFun e i) hz
  have ht : ∀ j, multiReduction .maximumf [1, 2] S1 (shapeCast S1x4096x8192 (absf (maximumf (F := Ideal) (φ := .f32)
      (shapeCast S4096x8192 v Facts₀.shapeCasts_S4096x8192_S4096x8192) (broadcast S4096x8192 (Scalar.ofBits .f32 0x00000000#32))))
      Facts₀.shapeCasts_S4096x8192_S1x4096x8192) 0xFF800000#32 Facts₀.reduces_S1x4096x8192_S1 (.inl rfl) rfl j = top v := fun j =>
    (maxAll [1, 2] _ Facts₀.shapeCasts_S4096x8192_S1x4096x8192 Facts₀.reduces_S1x4096x8192_S1 (.inl rfl) rfl one_index j).trans
      (iSup_congr fun i => congrArg (fun a : EReal => max a (-a)) (hc i))
  have hg := congrArg (fun a : EReal => Ideal.div a q448) (only _ _ ht Facts₀.shapeCasts_S1_S1x1x1 Facts₀.inpos_S1x1x1_p0_0_0)
  unfold k0_pay1
  exact congrArg₂ (fun a b : EReal => a * b) (congrArg₂ (fun a b : EReal => min a b) (congrArg₂ (fun a b : EReal => Ideal.div a b) (hc i) hg) rfl) hg

theorem idx_zero : ∀ t : Fin cfg0.N, win0_0.index t = ![0, 0] ∧ win0_1.index t = ![0, 0] :=
  (by decide +kernel : ∀ t : Fin grid0.N, _)

theorem in_eq : iblk m c 0 t0_0 = prod m c := by blk_ext! [iblk, idx_zero t0_0]

/-- The array the reference leaves. -/
theorem final : (dats m 0 c).arrAt 1 cfg0.N = k0_pay1 (F := Ideal) (prod m c) := by
  refine (dats m 0 c).arrAt_eq_of_after_last 1 t0_0 (by decide +kernel) _ fun j => ?_
  blk_simp
  rw [after0_1, in_eq]
  unfold out0_1
  rw [View.canon_cons_unit_lit _ _ _ (by decide)]
  exact congrFun (congrArg k0_pay1 (View.ld_unit_lit _ _ (by decide))) _

end Cert.RefValue

end
-- ==== Proof.Value.lean ====
module

public import proofs.«01_k».proof.Proof.Host
public import proofs.«01_k».proof.Proof.Quantise
public import proofs.«01_k».proof.Proof.RefValue
public import proofs.«01_k».proof.Proof.Region

@[expose] public section

noncomputable section

/-! What the devices write is the reference's array, cut along its rows. -/

namespace Cert.Value

open Cert.Arith Cert.Contents Cert.Sched Cert.Sums Cert.Quantise
open Idealize.ShloMosaic hiding ix2 eq_ix2
open Idealize.ShloMosaic.TcCoe Idealize.ShloMosaic.ValueIdx

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The devices' arguments are the parts of the reference's. -/
def Parts : Prop :=
  (∀ (c : Dev Cert.KernelIdeal.nD) (i : Fin 4096) (k : Fin 256), HostVal.xa m c (ix2 i k) = RefValue.xr m' 0 (ix2 i (row c k)))
    ∧ ∀ (c : Dev Cert.KernelIdeal.nD) (k : Fin 256) (j : Fin 8192), HostVal.wa m c (ix2 k j) = RefValue.wr m' 0 (ix2 (row c k) j)
/-- Every argument's elements are finite. -/
def Finite : Prop := ∀ c : Dev Cert.KernelIdeal.nD, (∀ i, HostVal.xa m c i - HostVal.xa m c i = 0) ∧ ∀ i, HostVal.wa m c i - HostVal.wa m c i = 0

variable {m m'}

/-- The devices' products add up to the whole product. -/
theorem sum_parts (hp : Parts m m') (hf : Finite m) (i : Fin 4096) (j : Fin 8192) :
    (∑ d : Dev Cert.KernelIdeal.nD, P (HostVal.xcat m) (HostVal.wcat m) d i j) = RefValue.prod m' 0 (ix2 i j) := by
  rw [RefValue.prod_apply]
  have e := sum_rows fun n => if h : n < 4096 then RefValue.xr m' 0 (ix2 i ⟨n, h⟩) * RefValue.wr m' 0 (ix2 ⟨n, h⟩ j) else 0
  refine Eq.trans (Finset.sum_congr rfl fun d _ => ?_) (e.trans (Finset.sum_congr rfl fun k _ => dif_pos k.isLt))
  refine (HostVal.dot_eq m d (hf d).1 (hf d).2 i j).trans (Finset.sum_congr rfl fun k _ => ?_)
  rw [hp.1, hp.2]
  exact (dif_pos (c := 256 * d.val + k.val < 4096) (t := fun h => RefValue.xr m' 0 (ix2 i ⟨256 * d.val + k.val, h⟩) * RefValue.wr m' 0 (ix2 ⟨256 * d.val + k.val, h⟩ j))
    (row d k).isLt).symm

theorem res_eq (hp : Parts m m') (hf : Finite m) (c : Dev Cert.KernelIdeal.nD) (r : Fin 256) (j : Fin 8192) :
    blocks (res (F := Ideal) (HostVal.xcat m) (HostVal.wcat m) c) (ix2 r j) = (max (RefValue.prod m' 0 (ix2 (row c r) j)) 0 : EReal) :=
  (res_apply _ _ c r j).trans (congrArg (fun a : EReal => max a 0) (sum_parts hp hf _ _))

theorem abs_cut (a : EReal) : max (max a 0) (-max a 0) = max a 0 :=
  max_eq_left ((EReal.neg_le_neg_iff.mpr (le_max_right a 0)).trans (by rw [neg_zero]; exact le_max_right a 0))

theorem row_cover (i : Fin 4096) : ∃ (c : Dev Cert.KernelIdeal.nD) (r : Fin 256), row c r = i :=
  ⟨⟨i.val / 256, by show i.val / 256 < 16; omega⟩, ⟨i.val % 256, Nat.mod_lt _ (by decide)⟩, Fin.ext (by show 256 * (i.val / 256) + i.val % 256 = i.val; omega)⟩

/-- The maximum over the devices' blocks is the maximum over the whole. -/
theorem top_eq (hp : Parts m m') (hf : Finite m) : topAll (HostVal.xcat m) (HostVal.wcat m) = RefValue.top (RefValue.prod m' 0) := by
  refine le_antisymm (iSup_le fun d => iSup_le fun y => ?_) (iSup_le fun z => ?_)
  · obtain ⟨r, j, rfl⟩ : ∃ (r : Fin 256) (j : Fin 8192), y = ix2 r j := ⟨y 0, y 1, eq_ix2 y⟩
    refine (res_eq hp hf d r j).trans_le ?_
    rw [← abs_cut]
    exact le_iSup (fun z => max (max (RefValue.prod m' 0 z) 0) (-max (RefValue.prod m' 0 z) 0)) (ix2 (row d r) j)
  · obtain ⟨i, j, rfl⟩ : ∃ (i : Fin 4096) (j : Fin 8192), z = ix2 i j := ⟨z 0, z 1, eq_ix2 z⟩
    obtain ⟨c, r, rfl⟩ := row_cover i
    rw [abs_cut]
    exact (res_eq hp hf c r j).symm.trans_le ((le_iSup (fun i => (blocks (res (F := Ideal) (HostVal.xcat m) (HostVal.wcat m) c) i : EReal)) _).trans
      (le_iSup (Quantise.top (HostVal.xcat m) (HostVal.wcat m)) c))

/-- What device `c` writes, at an entry. -/
theorem out_apply (hp : Parts m m') (hf : Finite m) (c : Dev Cert.KernelIdeal.nD) (r : Fin 256) (j : Fin 8192) :
    Region.out m c (ix2 r j) = Cert.ReferenceIdeal.Gen.k0_pay1 (F := Ideal) (RefValue.prod m' 0) (ix2 (row c r) j) := by
  have hx : Region.xin m = HostVal.xcat m := funext fun c => Segment.xin_eq m c
  have hw : Region.win m = HostVal.wcat m := funext fun c => Segment.win_eq m c
  unfold Region.out
  rw [hx, hw]
  refine (fin_apply _ _ c _).trans ?_
  rw [RefValue.pay1_apply, res_eq hp hf, top_eq hp hf]
  exact quant _ _

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_KernelIdeal
public import proofs.«01_k».proof.Proof.Gen.Pre_finite_ReferenceIdeal
public import proofs.«01_k».proof.Proof.Gen.ReferenceIdeal.Value
public import proofs.«01_k».proof.Proof.Twin
public import proofs.«01_k».proof.Proof.Value
public import Idealize.ShloMosaic.Adequacy
public import Idealize.ShloMosaic.Init

@[expose] public section

noncomputable section

namespace Cert.Proof

open Idealize.ShloMosaic Idealize.SL.Sem Cert.Kernel

/-- The idealised kernel runs, leaves its arguments as they were, and ends with every counter at zero. -/
theorem kernelIdeal_frame : Cert.quiescent_KernelIdeal := fun m g _ =>
  (θ_run _ _ _).mono (fun _ h => ⟨fun c => ⟨(h.1 c).1, (h.1 c).2.1⟩, h.2⟩) (Cert.Run.run_main (F := Ideal) m g)

/-- On finite arguments the idealised kernel's results are the parts of the reference's. -/
theorem kernelIdeal_reference : Cert.algebraic_KernelIdeal_ReferenceIdeal_pre_finite_KernelIdeal
    (hPre_finite_KernelIdeal := Cert.Pre_finite_KernelIdeal.Gen.facts) := by
  intro m g m' g' hpre harg
  haveI := Cert.Pre_finite_KernelIdeal.Gen.facts
  have hf : Cert.Value.Finite m := fun c => Cert.HostVal.finite _ _ (hpre c)
  have hp : Cert.Value.Parts m m' := by
    refine ⟨fun c i k => ?_, fun c k j => ?_⟩
    · refine (congrFun (harg c).1 _).trans (congrArg (Cert.RefValue.xr m' 0) (funext fun a => ?_))
      match a with
      | ⟨0, _⟩ => rfl
      | ⟨1, _⟩ => exact Fin.ext (show c.val * 256 + k.val = 256 * c.val + k.val by omega)
    · refine (congrFun (harg c).2 _).trans (congrArg (Cert.RefValue.wr m' 0) (funext fun a => ?_))
      match a with
      | ⟨0, _⟩ => exact Fin.ext (show c.val * 256 + k.val = 256 * c.val + k.val by omega)
      | ⟨1, _⟩ => rfl
  refine ⟨Cert.ReferenceIdeal.Gen.k0_pay1 (F := Ideal) (Cert.RefValue.prod m' 0),
    (θ_run _ _ _).mono (fun r h c => ⟨(h.1 c).2.2.trans ?_, (h.1 c).1, (h.1 c).2.1⟩) (Cert.Run.run_main (F := Ideal) m g),
    (θ_run _ _ _).mono (fun r h => ⟨(h 0).1.trans (Cert.RefValue.final m' 0), (h 0).2⟩) (Cert.ReferenceIdeal.Value.run_blocks m' g')⟩
  funext y
  obtain ⟨r, j, rfl⟩ : ∃ (r : Fin 256) (j : Fin 8192), y = ValueIdx.ix2 r j := ⟨y 0, y 1, ValueIdx.eq_ix2 y⟩
  refine (Cert.Value.out_apply hp hf c r j).trans (congrArg (Cert.ReferenceIdeal.Gen.k0_pay1 (F := Ideal) (Cert.RefValue.prod m' 0)) (funext fun a => ?_))
  match a with
  | ⟨0, _⟩ => exact Fin.ext (show 256 * c.val + r.val = c.val * 256 + r.val by omega)
  | ⟨1, _⟩ => rfl

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  fun m g _ => Cert.Twin.run_main m g, kernelIdeal_frame, fun m g _ => kernelIdeal_frame m g trivial,
  fun m g _ => Cert.ReferenceIdeal.Gen.frame m g, fun m g _ => Cert.ReferenceIdeal.Gen.frame m g, trivial, kernelIdeal_reference⟩

end Cert.Proof

end
